-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S7x512x512 : Shape := ⟨3, ![7, 512, 512]⟩
abbrev S8x512x2048 : Shape := ⟨3, ![8, 512, 2048]⟩
abbrev S7 : Shape := ⟨1, ![7]⟩
abbrev S8 : Shape := ⟨1, ![8]⟩
abbrev S_ : Shape := ⟨0, ![]⟩
abbrev S1x512x2048 : Shape := ⟨3, ![1, 512, 2048]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S4096x512, .fp8e4m3⟩
  | .local _ .vmem, ⟨3, _⟩ => ⟨S7x512x512, .fp8e4m3⟩
  | .local _ .vmem, ⟨4, _⟩ => ⟨S8x512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32 : BitVec 32 := 512#32
  let v6 : BitVec 32 := Scalar.muli v5 c512_i32
  let c0_i32_6 : BitVec 32 := 0#32
  ![v6.toNat, 0]
def k0_dev1 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v82 : BitVec 32 := Scalar.addi v2 c1_i32_67
  let c8_i32_68 : BitVec 32 := 8#32
  let v83 : BitVec 32 := Scalar.remsi v82 c8_i32_68
  let c1_i32_70 : BitVec 32 := 1#32
  let v84 : BitVec 32 := Scalar.muli v83 c1_i32_70
  let v85 : BitVec 32 := Scalar.addi c0_i32_71 v84
  v85.toNat
def k0_dev2 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_72 : BitVec 32 := 2#32
  let v86 : BitVec 32 := Scalar.addi v2 c2_i32_72
  let c8_i32_73 : BitVec 32 := 8#32
  let v87 : BitVec 32 := Scalar.remsi v86 c8_i32_73
  let c1_i32_75 : BitVec 32 := 1#32
  let v88 : BitVec 32 := Scalar.muli v87 c1_i32_75
  let v89 : BitVec 32 := Scalar.addi c0_i32_76 v88
  v89.toNat
def k0_dev3 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_77 : BitVec 32 := 3#32
  let v90 : BitVec 32 := Scalar.addi v2 c3_i32_77
  let c8_i32_78 : BitVec 32 := 8#32
  let v91 : BitVec 32 := Scalar.remsi v90 c8_i32_78
  let c1_i32_80 : BitVec 32 := 1#32
  let v92 : BitVec 32 := Scalar.muli v91 c1_i32_80
  let v93 : BitVec 32 := Scalar.addi c0_i32_81 v92
  v93.toNat
def k0_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v94 : BitVec 32 := Scalar.addi v2 c4_i32_82
  let c8_i32_83 : BitVec 32 := 8#32
  let v95 : BitVec 32 := Scalar.remsi v94 c8_i32_83
  let c1_i32_85 : BitVec 32 := 1#32
  let v96 : BitVec 32 := Scalar.muli v95 c1_i32_85
  let v97 : BitVec 32 := Scalar.addi c0_i32_86 v96
  v97.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_87 : BitVec 32 := 5#32
  let v98 : BitVec 32 := Scalar.addi v2 c5_i32_87
  let c8_i32_88 : BitVec 32 := 8#32
  let v99 : BitVec 32 := Scalar.remsi v98 c8_i32_88
  let c1_i32_90 : BitVec 32 := 1#32
  let v100 : BitVec 32 := Scalar.muli v99 c1_i32_90
  let v101 : BitVec 32 := Scalar.addi c0_i32_91 v100
  v101.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v102 : BitVec 32 := Scalar.addi v2 c6_i32_92
  let c8_i32_93 : BitVec 32 := 8#32
  let v103 : BitVec 32 := Scalar.remsi v102 c8_i32_93
  let c1_i32_95 : BitVec 32 := 1#32
  let v104 : BitVec 32 := Scalar.muli v103 c1_i32_95
  let v105 : BitVec 32 := Scalar.addi c0_i32_96 v104
  v105.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v106 : BitVec 32 := Scalar.addi v2 c7_i32_97
  let c8_i32_98 : BitVec 32 := 8#32
  let v107 : BitVec 32 := Scalar.remsi v106 c8_i32_98
  let c1_i32_100 : BitVec 32 := 1#32
  let v108 : BitVec 32 := Scalar.muli v107 c1_i32_100
  let v109 : BitVec 32 := Scalar.addi c0_i32_101 v108
  v109.toNat
def k0_off2 (d0 : Dev nD) (c1_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c1_i32_103
  let c8_i32_104 : BitVec 32 := 8#32
  let v111 : BitVec 32 := Scalar.remsi v110 c8_i32_104
  let c512_i32_105 : BitVec 32 := 512#32
  let v112 : BitVec 32 := Scalar.muli v111 c512_i32_105
  let c0_i32_113 : BitVec 32 := 0#32
  ![v112.toNat, 0]
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v110 : BitVec 32 := Scalar.addi v2 c1_i32_103
  let c8_i32_104 : BitVec 32 := 8#32
  let v111 : BitVec 32 := Scalar.remsi v110 c8_i32_104
  let c1_i32_109 : BitVec 32 := 1#32
  let v113 : BitVec 32 := Scalar.muli v111 c1_i32_109
  let v114 : BitVec 32 := Scalar.addi c0_i32_110 v113
  v114.toNat
def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_114 : BitVec 32 := 2#32
  let v122 : BitVec 32 := Scalar.addi v2 c2_i32_114
  let c8_i32_115 : BitVec 32 := 8#32
  let v123 : BitVec 32 := Scalar.remsi v122 c8_i32_115
  let c1_i32_120 : BitVec 32 := 1#32
  let v125 : BitVec 32 := Scalar.muli v123 c1_i32_120
  let v126 : BitVec 32 := Scalar.addi c0_i32_121 v125
  v126.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v134 : BitVec 32 := Scalar.addi v2 c3_i32_125
  let c8_i32_126 : BitVec 32 := 8#32
  let v135 : BitVec 32 := Scalar.remsi v134 c8_i32_126
  let c1_i32_131 : BitVec 32 := 1#32
  let v137 : BitVec 32 := Scalar.muli v135 c1_i32_131
  let v138 : BitVec 32 := Scalar.addi c0_i32_132 v137
  v138.toNat
def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v146 : BitVec 32 := Scalar.addi v2 c4_i32_136
  let c8_i32_137 : BitVec 32 := 8#32
  let v147 : BitVec 32 := Scalar.remsi v146 c8_i32_137
  let c1_i32_142 : BitVec 32 := 1#32
  let v149 : BitVec 32 := Scalar.muli v147 c1_i32_142
  let v150 : BitVec 32 := Scalar.addi c0_i32_143 v149
  v150.toNat
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_147 : BitVec 32 := 5#32
  let v158 : BitVec 32 := Scalar.addi v2 c5_i32_147
  let c8_i32_148 : BitVec 32 := 8#32
  let v159 : BitVec 32 := Scalar.remsi v158 c8_i32_148
  let c1_i32_153 : BitVec 32 := 1#32
  let v161 : BitVec 32 := Scalar.muli v159 c1_i32_153
  let v162 : BitVec 32 := Scalar.addi c0_i32_154 v161
  v162.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_158 : BitVec 32 := 6#32
  let v170 : BitVec 32 := Scalar.addi v2 c6_i32_158
  let c8_i32_159 : BitVec 32 := 8#32
  let v171 : BitVec 32 := Scalar.remsi v170 c8_i32_159
  let c1_i32_164 : BitVec 32 := 1#32
  let v173 : BitVec 32 := Scalar.muli v171 c1_i32_164
  let v174 : BitVec 32 := Scalar.addi c0_i32_165 v173
  v174.toNat
def k0_dev14 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_169 : BitVec 32 := 7#32
  let v182 : BitVec 32 := Scalar.addi v2 c7_i32_169
  let c8_i32_170 : BitVec 32 := 8#32
  let v183 : BitVec 32 := Scalar.remsi v182 c8_i32_170
  let c1_i32_175 : BitVec 32 := 1#32
  let v185 : BitVec 32 := Scalar.muli v183 c1_i32_175
  let v186 : BitVec 32 := Scalar.addi c0_i32_176 v185
  v186.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_180 : BitVec 32 := 512#32
  let v194 : BitVec 32 := Scalar.muli v2 c512_i32_180
  let v195 : Index := Scalar.indexCast v194
  let c0_181 : Index := 0#32
  ![v195.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Program.lean ====
/-
# The kernel's program as loops over copies

The printed program writes every copy, signal, send and wait out; here the same program is a few loops over lists of
slot numbers. Device `c` keeps its own eight row blocks of the narrowed `x` in `x8M`, the seven row blocks the other
devices send in the slots of `commM`, and the eight row blocks of `w` in the slots of `wbufM`. Slot `j` of `commM` and
slot `j + 1` of `wbufM` belong together: both concern the device `j + 1` places before `c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.SL.Sem
open Idealize.ShloMosaic.TcCoe

variable {F : FTy → Type} [FloatOps F]

/-! ## The devices -/

set_option backward.proofsInPublic true in
/-- The device `j + 1` places after `c` in the ring of eight. -/
def fwd (c : Dev nD) (j : Fin 7) : Dev nD := ⟨(c.val + j.val + 1) % 8, Nat.mod_lt _ (by decide)⟩

/-- Seven steps forward in all lead once around: `j + 1` places after, then `7 - j` places after, is where one started. -/
theorem fwd_fwd_rev (c : Dev nD) (j : Fin 7) : fwd (fwd c j) j.rev = c := by revert c j; decide

/-- The same the other way about. -/
theorem fwd_rev_fwd (c : Dev nD) (j : Fin 7) : fwd (fwd c j.rev) j = c := by revert c j; decide

/-- Going `j + 1` places forward is a bijection of the ring; its inverse goes `7 - j` places forward. -/
def fwdEquiv (j : Fin 7) : Dev nD ≃ Dev nD where
  toFun c := fwd c j
  invFun c := fwd c j.rev
  left_inv c := fwd_fwd_rev c j
  right_inv c := fwd_rev_fwd c j

/-- The device the program's `j`-th signal goes to, as the program computes it. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

/-- The device the program's `j`-th send goes to, as the program computes it. -/
def sendDev (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]

/-- The `j`-th signal goes `j + 1` places forward. -/
theorem sigDev_eq (c : Dev nD) (j : Fin 7) : sigDev c j = fwd c j := by revert c j; decide +kernel

/-- The `j`-th send goes `j + 1` places forward. -/
theorem sendDev_eq (c : Dev nD) (j : Fin 7) : sendDev c j = fwd c j := by revert c j; decide +kernel

/-! ## The buffers and their pieces -/

/-- The device's columns of `x`, staged. -/
abbrev xM : Memref sig .tc .vmem S4096x512 .f32 := Memref.whole cc0_stg0_0
/-- The first scale. -/
abbrev sxM : Memref sig .tc .smem S1 .f32 := Memref.whole cc0_stg1_0
/-- The second scale. -/
abbrev swM : Memref sig .tc .smem S1 .f32 := Memref.whole cc0_stg2_0
/-- The device's rows of the result, staged. -/
abbrev oM : Memref sig .tc .vmem S512x2048 .f32 := Memref.whole cc0_stg3_0
/-- The whole of `w`, not staged. -/
abbrev wM : Memref sig .tc .hbm S4096x2048 .f32 := Memref.whole main_arg1
/-- The device's columns of `x`, narrowed. -/
abbrev x8M : Memref sig .tc .vmem S4096x512 .fp8e4m3 := Memref.whole cc0_scratch0
/-- The seven slots the other devices' blocks of `x` land in. -/
abbrev commM : Memref sig .tc .vmem S7x512x512 .fp8e4m3 := Memref.whole cc0_scratch1
/-- The eight slots the row blocks of `w` are copied into. -/
abbrev wbufM : Memref sig .tc .vmem S8x512x2048 .f32 := Memref.whole cc0_scratch2

/-- Slot `j` lies within the landing buffer. -/
theorem inb_comm (j : Fin 7) : ∀ a, (![j.val, 0, 0] : Fin 3 → Nat) a + S1x512x512.size a ≤ S7x512x512.size a := by
  revert j; decide
/-- Slot `d` lies within the buffer of blocks of `w`. -/
theorem inb_wbuf (d : Fin 8) : ∀ a, (![d.val, 0, 0] : Fin 3 → Nat) a + S1x512x2048.size a ≤ S8x512x2048.size a := by
  revert d; decide
/-- Semaphore `j` lies within an array of seven. -/
theorem inb_sem7 (j : Fin 7) : ∀ a, (![j.val] : Fin 1 → Nat) a + S1.size a ≤ S7.size a := by revert j; decide
/-- Semaphore `d` lies within an array of eight. -/
theorem inb_sem8 (d : Fin 8) : ∀ a, (![d.val] : Fin 1 → Nat) a + S1.size a ≤ S8.size a := by revert d; decide

/-- Slot `j` of the landing buffer, as a rectangle. -/
abbrev commR (j : Fin 7) : Rect S7x512x512 := Rect.unit (s := S7x512x512) ![j.val, 0, 0] S1x512x512.size (inb_comm j)
/-- Slot `d` of the buffer of blocks of `w`, as a rectangle. -/
abbrev wbufR (d : Fin 8) : Rect S8x512x2048 := Rect.unit (s := S8x512x2048) ![d.val, 0, 0] S1x512x2048.size (inb_wbuf d)
/-- The rows of `x` that device `c` sends `j + 1` places forward, as a rectangle. -/
abbrev srcR (c : Dev nD) (j : Fin 7) : Rect S4096x512 :=
  Rect.unit (s := S4096x512) (k0_off2 c (BitVec.ofNat 32 (1 + j.val))) S512x512.size (k0_off2_inb c j)
/-- The rows of `w` that go with the device `d` places before `c`, as a rectangle. -/
abbrev wsrcR (c : Dev nD) (d : Fin 8) : Rect S4096x2048 :=
  Rect.unit (s := S4096x2048) (k0_off1 c (BitVec.ofNat 32 d.val)) S512x2048.size (k0_off1_inb c d)
/-- The rows of `x` that device `c` keeps, as a rectangle. -/
abbrev ownR (c : Dev nD) : Rect S4096x512 := Rect.unit (s := S4096x512) (k0_off3 c) S512x512.size (k0_off3_inb c)

/-- Slot `j` of the landing buffer, as a matrix. -/
abbrev slotM (j : Fin 7) : Memref sig .tc .vmem S512x512 .fp8e4m3 :=
  (commM.slice (commR j) (fun _ => rfl)).squeeze S512x512 squeezes_S1x512x512_S512x512
/-- Slot `d` of the buffer of blocks of `w`, as a matrix. -/
abbrev wslotM (d : Fin 8) : Memref sig .tc .vmem S512x2048 .f32 :=
  (wbufM.slice (wbufR d) (fun _ => rfl)).squeeze S512x2048 squeezes_S1x512x2048_S512x2048
/-- The rows of `x` that device `c` sends `j + 1` places forward. -/
abbrev srcM (c : Dev nD) (j : Fin 7) : Memref sig .tc .vmem S512x512 .fp8e4m3 := x8M.slice (srcR c j) (fun _ => rfl)
/-- The rows of `w` that go with the device `d` places before `c`. -/
abbrev wsrcM (c : Dev nD) (d : Fin 8) : Memref sig .tc .hbm S512x2048 .f32 := wM.slice (wsrcR c d) (fun _ => rfl)
/-- The first rows of `x`: what a wait for a landing names as its source (only the size counts). -/
abbrev firstM : Memref sig .tc .vmem S512x512 .fp8e4m3 :=
  x8M.slice (Rect.unit (s := S4096x512) ![0, 0] S512x512.size inb_S4096x512_S512x512_0_0) (fun _ => rfl)

/-- The semaphore of the send `j + 1` places forward. -/
abbrev sendQ (j : Fin 7) : DmaSem sig :=
  ((cc0_scratch3.slice (Rect.unit (s := S7) ![j.val] S1.size (inb_sem7 j))).squeeze S_ squeezes_S1_S_).sem
/-- The semaphore of the landing in slot `j`. -/
abbrev recvQ (j : Fin 7) : DmaSem sig :=
  ((cc0_scratch4.slice (Rect.unit (s := S7) ![j.val] S1.size (inb_sem7 j))).squeeze S_ squeezes_S1_S_).sem
/-- The semaphore of the copy of a block of `w` into slot `d`. -/
abbrev wQ (d : Fin 8) : DmaSem sig :=
  ((cc0_scratch5.slice (Rect.unit (s := S8) ![d.val] S1.size (inb_sem8 d))).squeeze S_ squeezes_S1_S_).sem
/-- The barrier semaphore. -/
abbrev barQ : Sem sig := (SemArray.scalar (sig.barrier 0 rfl) : Sems sig S_).sem

/-- The send semaphores are four and on. -/
theorem sendQ_eq (j : Fin 7) : sendQ j = ⟨4 + j.val, show 4 + j.val < 26 by have := j.isLt; omega⟩ := by fin_cases j <;> rfl
/-- The landing semaphores are eleven and on. -/
theorem recvQ_eq (j : Fin 7) : recvQ j = ⟨11 + j.val, show 11 + j.val < 26 by have := j.isLt; omega⟩ := by fin_cases j <;> rfl
/-- The semaphores of the copies of `w` are eighteen and on. -/
theorem wQ_eq (d : Fin 8) : wQ d = ⟨18 + d.val, show 18 + d.val < 26 by have := d.isLt; omega⟩ := by fin_cases d <;> rfl

/-- A slot of the landing buffer is whole words. -/
theorem words_comm (j : Fin 7) : (commR j).WholeWords (EltTy.packing .fp8e4m3) := by
  fin_cases j
  exacts [wordsfp8e4m3_S7x512x512_S1x512x512_0_0_0, wordsfp8e4m3_S7x512x512_S1x512x512_1_0_0,
    wordsfp8e4m3_S7x512x512_S1x512x512_2_0_0, wordsfp8e4m3_S7x512x512_S1x512x512_3_0_0,
    wordsfp8e4m3_S7x512x512_S1x512x512_4_0_0, wordsfp8e4m3_S7x512x512_S1x512x512_5_0_0,
    wordsfp8e4m3_S7x512x512_S1x512x512_6_0_0]

theorem exact_slot (j : Fin 7) : (slotM j).view.WordExact :=
  ((Memref.isWhole_whole cc0_scratch1).wordExact_slice rfl _ (words_comm j)).reshape _ _
theorem exact_src (c : Dev nD) (j : Fin 7) : (srcM c j).view.WordExact :=
  (Memref.isWhole_whole cc0_scratch0).wordExact_slice rfl _ (k0_off2_wordsfp8e4m3 c j)
theorem exact_first : firstM.view.WordExact :=
  (Memref.isWhole_whole cc0_scratch0).wordExact_slice rfl _ wordsfp8e4m3_S4096x512_S512x512_0_0
theorem exact_wslot (d : Fin 8) : (wslotM d).view.WordExact := (View.wordExact_bits rfl).reshape _ _
theorem exact_wsrc (c : Dev nD) (d : Fin 8) : (wsrcM c d).view.WordExact := View.wordExact_bits rfl

/-! ## The loops -/

/-- A program of a TensorCore of this kernel, with nothing to return. -/
abbrev P (F : FTy → Type) : Type 1 := Prog (TpuEff nD τ sig (Elt F) Λ₀ .tc) PUnit

/-- Start the copies of the listed blocks of `w` into their slots. -/
def startW (c : Dev nD) : List (Fin 8) → P F → P F
  | [], k => k
  | d :: l, k => .op (.enqueueDma (wsrcM c d) (.here (wslotM d)) (.dma (wQ d)) (exact_wsrc c d) (exact_wslot d)
      ⟨Or.inl rfl, trivial⟩) fun _ => startW c l k

/-- Signal the barrier of the listed devices. -/
def signalAll (c : Dev nD) : List (Fin 7) → P F → P F
  | [], k => k
  | j :: l, k => .op (.semSignal ((sigDev c j, .tc) : Thread nD τ) barQ (1#32).toInt) fun _ => signalAll c l k

/-- Send the listed blocks of `x`. -/
def sendAll (c : Dev nD) : List (Fin 7) → P F → P F
  | [], k => k
  | j :: l, k => .op (.enqueueDma (srcM c j) (.remote (Dev.tc (sendDev c j)) (slotM j) (.dma (sendQ j))) (.dma (recvQ j))
      (exact_src c j) (exact_slot j) ⟨⟨rfl, Or.inl rfl⟩, trivial⟩) fun _ => sendAll c l k

/-- The whole result block. -/
abbrev oR : Rect S512x2048 := Rect.unit (s := S512x2048) ![0, 0] S512x2048.size inb_S512x2048_S512x2048_0_0
/-- The whole block of `x`. -/
abbrev xR : Rect S4096x512 := Rect.unit (s := S4096x512) ![0, 0] S4096x512.size inb_S4096x512_S4096x512_0_0
/-- The one word of a scale. -/
abbrev sR : Rect S1 := Rect.unit (s := S1) ![0] S1.size inb_S1_S1_0

/-- The slot of `w` that goes with slot `j` of the landing buffer. -/
abbrev nxt8 (j : Fin 7) : Fin 8 := ⟨j.val + 1, Nat.succ_lt_succ j.isLt⟩

/-- For each listed slot: wait for the landing and read it, wait for the block of `w` and read it, and add their product
to the result block. -/
def addAll (c : Dev nD) : List (Fin 7) → P F → P F
  | [], k => k
  | j :: l, k =>
    .op (.waitDma2 (recvQ j) firstM (slotM j) exact_first (exact_slot j)) fun _ =>
    .op (.load commM (commR j).toLoadRect (View.loadsAt_vmem h_S1x512x512)) fun x =>
    .op (.waitDma2 (wQ (nxt8 j)) (wsrcM c (nxt8 j)) (wslotM (nxt8 j)) (exact_wsrc c (nxt8 j)) (exact_wslot (nxt8 j))) fun _ =>
    .op (.load wbufM (wbufR (nxt8 j)).toLoadRect (View.loadsAt_vmem h_S1x512x2048)) fun w =>
    .op (.load oM oR.toLoadRect (View.loadsAt_vmem h_S512x2048)) fun a =>
    .op (.load oM oR.toLoadRect (View.loadsAt_vmem h_S512x2048)) fun _ =>
    .op (.store oM oR (k0_pay7 x w a) Finset.univ (View.stores_vmem_bits_univ h_S512x2048 rfl) (.inl rfl)) fun _ =>
    addAll c l k

/-- Wait until the listed sends have left. -/
def waitSends (c : Dev nD) : List (Fin 7) → P F → P F
  | [], k => k
  | j :: l, k => .op (.waitDma2 (sendQ j) (slotM j) (srcM c j) (exact_slot j) (exact_src c j)) fun _ => waitSends c l k

/-- All slots of seven, in order. -/
abbrev all7 : List (Fin 7) := [0, 1, 2, 3, 4, 5, 6]
/-- All slots of eight, in order. -/
abbrev all8 : List (Fin 8) := [0, 1, 2, 3, 4, 5, 6, 7]

/-- The kernel's program on device `c`. -/
def prog (c : Dev nD) : P F :=
  startW c all8 <|
  .op (.load xM xR.toLoadRect (View.loadsAt_vmem h_S4096x512)) fun x =>
  .op (.load x8M xR.toLoadRect (View.loadsAt_vmem h_S4096x512)) fun _ =>
  .op (.store x8M xR (k0_pay1 x) Finset.univ (View.stores_vmem h_S4096x512
    ((Memref.isWhole_whole cc0_scratch0).storeExact_slice rfl _ packedfp8e4m3_S4096x512_S4096x512_0_0) (fun _ => rfl)) (.inl rfl)) fun _ =>
  signalAll c all7 <|
  .op (.semWait barQ (7#32).toInt) fun _ =>
  sendAll c all7 <|
  .op (.load x8M (ownR c).toLoadRect (View.loadsAt_vmem h_S512x512)) fun own =>
  .op (.waitDma2 (wQ 0) (wsrcM c 0) (wslotM 0) (exact_wsrc c 0) (exact_wslot 0)) fun _ =>
  .op (.load wbufM (wbufR 0).toLoadRect (View.loadsAt_vmem h_S1x512x2048)) fun w =>
  .op (.load oM oR.toLoadRect (View.loadsAt_vmem h_S512x2048)) fun _ =>
  .op (.store oM oR (k0_pay2 own w) Finset.univ (View.stores_vmem_bits_univ h_S512x2048 rfl) (.inl rfl)) fun _ =>
  addAll c all7 <|
  .op (.load oM oR.toLoadRect (View.loadsAt_vmem h_S512x2048)) fun a =>
  smemLoadElt sxM sR (View.loads_smem_one rfl numel1_S1) (Shape.Idx.first (numel1_S1.symm ▸ Nat.one_pos)) fun sx =>
  smemLoadElt swM sR (View.loads_smem_one rfl numel1_S1) (Shape.Idx.first (numel1_S1.symm ▸ Nat.one_pos)) fun sw =>
  .op (.load oM oR.toLoadRect (View.loadsAt_vmem h_S512x2048)) fun _ =>
  .op (.store oM oR (k0_pay13 (k0_pay12 a) sx sw) Finset.univ (View.stores_vmem_bits_univ h_S512x2048 rfl) (.inl rfl)) fun _ =>
  waitSends c all7 (.ret ⟨⟩)

/-- The kernel's body as printed, on its buffers. -/
abbrev body (F : FTy → Type) [FloatOps F] : P F :=
  cc0_body xM (Memref.isWhole_whole _) wM (Memref.isWhole_whole _) sxM (Memref.isWhole_whole _) swM (Memref.isWhole_whole _)
    oM (Memref.isWhole_whole _) x8M (Memref.isWhole_whole _) commM (Memref.isWhole_whole _) wbufM (Memref.isWhole_whole _)
    cc0_scratch3 cc0_scratch4 cc0_scratch5

set_option maxRecDepth 65536 in
set_option maxHeartbeats 4000000 in
/-- The printed body reads its device's number and then is the program of that device. -/
theorem body_eq : body F = .op .deviceId fun c => prog c := by
  rw [body, cc0_body_eq_skeleton]
  simp only [cc0_body_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton,
    k0_part1_skel, k0_part2_skel, k0_part3_skel, k0_part4_skel, k0_part5_skel, k0_part6_skel, k0_part7_skel, k0_part8_skel,
    k0_part9_skel, k0_part10_skel, k0_part11_skel, k0_part12_skel, k0_part13_skel, k0_part14_skel, k0_part15_skel,
    k0_part16_skel, semSignalWord, semWaitWord, smemLoad, smemLoadElt, Prog.lift, Prog.bind_op, Prog.bind_ret, Prog.pure_eq_ret]
  rfl

end Cert.KernelIdeal.Exchange

end
-- ==== Proof.KernelIdeal.Protocol.lean ====
/-
# The protocol of the exchange

Who waits on each semaphore, who raises it, by how much, and what is handed over when it is raised. Every semaphore is
used for one round.

* The barrier of device `c` waits for seven units. Unit `k` comes from the device `k + 1` places after `c` and hands `c`
  slot `k` of that device's landing buffer: the slot `c`'s own send of that distance is going to fill.
* The landing semaphore `j` of device `c` waits for one block. It is raised by the device that has `c` `j + 1` places
  after it, and it hands `c` its slot `j` back, holding that device's row block of the narrowed `x`.
* The send semaphore `j` of device `c` hands `c` the rows it sent back.
* The semaphore of a copy of a block of `w` hands `c` the slot, holding the block, and the rows of `w` it was copied from.
-/
module

public import proofs.«01_k».proof.Proof.KernelIdeal.Program

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphores a device owns in the protocol: its barrier, seven for sends, seven for landings, eight for copies of
blocks of `w`. -/
abbrev CI : Type := Unit ⊕ Fin 7 ⊕ Fin 7 ⊕ Fin 8

abbrev barI : CI := .inl ()
abbrev sendI (j : Fin 7) : CI := .inr (.inl j)
abbrev recvI (j : Fin 7) : CI := .inr (.inr (.inl j))
abbrev wI (d : Fin 8) : CI := .inr (.inr (.inr d))

/-- The semaphore an index stands for, the barrier aside. -/
abbrev osem : Fin 7 ⊕ Fin 7 ⊕ Fin 8 → SemLoc sig
  | .inl j => .dma (sendQ j)
  | .inr (.inl j) => .dma (recvQ j)
  | .inr (.inr d) => .dma (wQ d)

/-- The semaphore an index stands for. -/
abbrev csem : CI → SemLoc sig
  | .inl _ => .reg barQ
  | .inr k => osem k

/-- The index of a semaphore, if it has one. -/
def kind : SemLoc sig → Option CI
  | .reg s => if s = barQ then some barI else none
  | .dma q =>
    if h : 4 ≤ q.val ∧ q.val < 11 then some (sendI ⟨q.val - 4, by omega⟩)
    else if h : 11 ≤ q.val ∧ q.val < 18 then some (recvI ⟨q.val - 11, by omega⟩)
    else if h : 18 ≤ q.val ∧ q.val < 26 then some (wI ⟨q.val - 18, by omega⟩)
    else none

/-- The semaphore of an index has that index. -/
theorem kind_csem (k : CI) : kind (csem k) = some k := by revert k; decide +kernel

/-- Different indices stand for different semaphores. -/
theorem csem_inj : Function.Injective csem := fun a b h =>
  Option.some.inj ((kind_csem a).symm.trans ((congrArg kind h).trans (kind_csem b)))

/-- The cell of an index on a device. -/
abbrev cell (c : Dev nD) (k : CI) : GSem nD τ sig := ((c : Thread nD τ), csem k)

/-- A block of `x` in transfer units. -/
def Nx : ℕ := (firstM : Memref sig .tc .vmem S512x512 .fp8e4m3).view.dmaCredit
/-- A block of `w` in transfer units. -/
def Nw : ℕ := (wslotM 0 : Memref sig .tc .vmem S512x2048 .f32).view.dmaCredit
theorem Nx_pos : 0 < Nx := View.dmaCredit_pos _ (by decide)
theorem Nw_pos : 0 < Nw := View.dmaCredit_pos _ (by decide)

/-! ## The contents -/

/-! The kernel starts from `X c`, device `c`'s columns of `x`, and `Wt c`, its copy of `w`. -/

variable (X : Dev nD → (cc0_stg0_0 : Ref sig .tc).ty.Contents (Elt F))
  (Wt : Dev nD → (main_arg1 : Ref sig .tc).ty.Contents (Elt F))

/-- The device's columns of `x`, narrowed. -/
def x8 (c : Dev nD) : (cc0_scratch0 : Ref sig .tc).ty.Contents (Elt F) := k0_pay1 (X c)
/-- The row block of its narrowed columns that device `c` sends `j + 1` places forward. -/
def xblk (c : Dev nD) (j : Fin 7) : FVec F S512x512 .fp8e4m3 := (srcM c j).view.read (Elt F) (x8 X c)
/-- The row block of its narrowed columns that device `c` keeps. -/
def own (c : Dev nD) : FVec F S512x512 .fp8e4m3 := (x8M.access (ownR c)).read (Elt F) (x8 X c)
/-- The row block of `w` that goes with the device `d` places before `c`. -/
def wblk (c : Dev nD) (d : Fin 8) : FVec F S512x2048 .f32 := (wsrcM c d).view.read (Elt F) (Wt c)

/-- The device whose row block lands in slot `j` of device `c`. -/
abbrev snd (c : Dev nD) (j : Fin 7) : Dev nD := fwd c j.rev

/-- Slot `j` of device `c`'s landing buffer, holding `f` (which only counts on that slot). -/
def slotPts (c : Dev nD) (j : Fin 7) (f : Buf (Elt F) ((slotM j).view.loc (c : Thread nD τ))) : sProp 𝕄 :=
  (slotM j).view.loc (c : Thread nD τ) ↦[(slotM j).view.set]{fullShare} f
/-- Slot `d` of device `c`'s buffer of blocks of `w`, holding `f`. -/
def wslotPts (c : Dev nD) (d : Fin 8) (f : Buf (Elt F) ((wslotM d).view.loc (c : Thread nD τ))) : sProp 𝕄 :=
  (wslotM d).view.loc (c : Thread nD τ) ↦[(wslotM d).view.set]{fullShare} f
/-- The rows device `c` sends `j + 1` places forward. -/
def srcPts (c : Dev nD) (j : Fin 7) : sProp 𝕄 :=
  (srcM c j).view.loc (c : Thread nD τ) ↦[(srcM c j).view.set]{fullShare} x8 X c
/-- The rows of `w` that go with the device `d` places before `c`. -/
def wsrcPts (c : Dev nD) (d : Fin 8) : sProp 𝕄 :=
  (wsrcM c d).view.loc (c : Thread nD τ) ↦[(wsrcM c d).view.set]{fullShare} Wt c

/-- What a landing hands over: the slot, holding the sender's block. -/
def landed (c : Dev nD) (j : Fin 7) : sProp 𝕄 :=
  iprop(∃ f, ⌜(slotM j).view.read (Elt F) f = xblk X (snd c j) j⌝ ∗ slotPts c j f)
/-- What a finished copy of a block of `w` hands over: the slot, holding the block, and the rows copied from. -/
def fetched (c : Dev nD) (d : Fin 8) : sProp 𝕄 :=
  iprop((∃ f, ⌜(wslotM d).view.read (Elt F) f = wblk Wt c d⌝ ∗ wslotPts c d f) ∗ wsrcPts Wt c d)
/-- What a barrier unit hands over: the slot to be filled. -/
def offered (c : Dev nD) (j : Fin 7) : sProp 𝕄 := iprop(∃ f, slotPts c j f)

instance slotPts_storable (c : Dev nD) (j : Fin 7) (f) : BI.Storable (upEmb : UEmb _ 𝕄) (slotPts (F := F) c j f) := by
  unfold slotPts; infer_instance
instance wslotPts_storable (c : Dev nD) (d : Fin 8) (f) : BI.Storable (upEmb : UEmb _ 𝕄) (wslotPts (F := F) c d f) := by
  unfold wslotPts; infer_instance
instance srcPts_storable (c : Dev nD) (j : Fin 7) : BI.Storable (upEmb : UEmb _ 𝕄) (srcPts (F := F) X c j) := by
  unfold srcPts; infer_instance
instance wsrcPts_storable (c : Dev nD) (d : Fin 8) : BI.Storable (upEmb : UEmb _ 𝕄) (wsrcPts (F := F) Wt c d) := by
  unfold wsrcPts; infer_instance
instance landed_storable (c : Dev nD) (j : Fin 7) : BI.Storable (upEmb : UEmb _ 𝕄) (landed (F := F) X c j) := by
  unfold landed; infer_instance
instance fetched_storable (c : Dev nD) (d : Fin 8) : BI.Storable (upEmb : UEmb _ 𝕄) (fetched (F := F) Wt c d) := by
  unfold fetched; infer_instance
instance offered_storable (c : Dev nD) (j : Fin 7) : BI.Storable (upEmb : UEmb _ 𝕄) (offered (F := F) c j) := by
  unfold offered; infer_instance

/-! ## The schedule -/

/-- The duties of an index's one round: seven on the barrier, one on any other. -/
def dutiesOf : CI → Finset (Fin 7)
  | .inl _ => Finset.univ
  | .inr _ => {0}
/-- The units of a duty. -/
def amountOf : CI → ℕ
  | .inl _ => 1
  | .inr (.inl _) => Nx
  | .inr (.inr (.inl _)) => Nx
  | .inr (.inr (.inr _)) => Nw
/-- What a duty hands over. -/
def payOf (c : Dev nD) (e : Fin 7) : CI → sProp 𝕄
  | .inl _ => offered (fwd c e) e
  | .inr (.inl j) => srcPts X c j
  | .inr (.inr (.inl j)) => landed X c j
  | .inr (.inr (.inr d)) => fetched Wt c d

theorem amountOf_pos (k : CI) : 0 < amountOf k := by
  rcases k with _ | j | j | d
  · exact Nat.one_pos
  · show 0 < Nx; exact Nx_pos
  · show 0 < Nx; exact Nx_pos
  · show 0 < Nw; exact Nw_pos

instance payOf_storable (c : Dev nD) (e : Fin 7) (k : CI) : BI.Storable (upEmb : UEmb _ 𝕄) (payOf (F := F) X Wt c e k) := by
  rcases k with _ | j | j | d
  · exact offered_storable (fwd c e) e
  · exact srcPts_storable X c j
  · exact landed_storable X c j
  · exact fetched_storable Wt c d

/-- The protocol: one round at every cell that has an index, nothing at any other. -/
def Rd : Rounds.Schedule (GSem nD τ sig) (Fin 7) 𝕄 where
  duties g r := if r = 0 ∧ g.1.2 = .tc then (kind g.2).elim ∅ dutiesOf else ∅
  unitless _ := False
  amount g _ _ := (kind g.2).elim 1 amountOf
  payload g _ e := (kind g.2).elim iprop(emp) (payOf X Wt g.1.1 e)
  amount_pos g _ _ _ := by
    rcases kind g.2 with _ | k
    exacts [Nat.one_pos, amountOf_pos k]

instance Rd_storable (g : GSem nD τ sig) (r : ℕ) (e : Fin 7) :
    BI.Storable (upEmb : UEmb _ 𝕄) ((Rd (F := F) X Wt).payload g r e) := by
  show BI.Storable upEmb ((kind g.2).elim iprop(emp) (payOf X Wt g.1.1 e))
  rcases kind g.2 with _ | k
  · show BI.Storable upEmb (iprop(emp) : sProp 𝕄); infer_instance
  · exact payOf_storable X Wt g.1.1 e k

/-- The duties at an index's cell. -/
theorem duties_cell (c : Dev nD) (k : CI) : (Rd X Wt).duties (cell c k) 0 = dutiesOf k := by
  show (if (0 : ℕ) = 0 ∧ (c : Thread nD τ).2 = .tc then (kind (csem k)).elim ∅ dutiesOf else ∅) = _
  rw [if_pos ⟨rfl, rfl⟩, kind_csem]; rfl
/-- No duties after the first round. -/
theorem duties_later (g : GSem nD τ sig) : ∀ r, 1 ≤ r → (Rd X Wt).duties g r = ∅ := fun r hr => if_neg fun h => by omega
/-- The units of a duty at an index's cell. -/
theorem amount_cell (c : Dev nD) (k : CI) (e : Fin 7) : (Rd X Wt).amount (cell c k) 0 e = amountOf k := by
  show (kind (csem k)).elim 1 amountOf = _
  rw [kind_csem]; rfl
/-- What a duty at an index's cell hands over. -/
theorem payload_cell (c : Dev nD) (k : CI) (e : Fin 7) : (Rd X Wt).payload (cell c k) 0 e = payOf X Wt c e k := by
  show (kind (csem k)).elim iprop(emp) (payOf X Wt c e) = _
  rw [kind_csem]; rfl
/-- A barrier expects seven units. -/
theorem expect_bar (c : Dev nD) : (Rd X Wt).expect (cell c barI) 0 = 7 := by
  unfold Schedule.expect Schedule.amountOf
  rw [duties_cell, Finset.sum_congr rfl fun e _ => amount_cell X Wt c barI e]
  rfl
/-- Any other cell expects its one duty's units. -/
theorem expect_own (c : Dev nD) (k : Fin 7 ⊕ Fin 7 ⊕ Fin 8) : (Rd X Wt).expect (cell c (.inr k)) 0 = amountOf (.inr k) := by
  unfold Schedule.expect Schedule.amountOf
  rw [duties_cell, show dutiesOf (.inr k) = {0} from rfl, Finset.sum_singleton, amount_cell]
/-- A barrier's whole round hands over seven slots. -/
theorem rest_bar (c : Dev nD) :
    bigSep ((Rd X Wt).duties (cell c barI) 0 \ ∅) (fun e => (Rd X Wt).payload (cell c barI) 0 e)
      = bigSep Finset.univ fun e => offered (fwd c e) e := by
  rw [Finset.sdiff_empty, duties_cell]
  exact bigSep_congr fun e _ => payload_cell X Wt c barI e
/-- Any other cell's whole round hands over its one payload. -/
theorem rest_own (c : Dev nD) (k : Fin 7 ⊕ Fin 7 ⊕ Fin 8) :
    bigSep ((Rd X Wt).duties (cell c (.inr k)) 0 \ ∅) (fun e => (Rd X Wt).payload (cell c (.inr k)) 0 e)
      = payOf X Wt c 0 (.inr k) := by
  rw [Finset.sdiff_empty, duties_cell, show dutiesOf (.inr k) = {0} from rfl, bigSep_singleton, payload_cell]

/-! ## What each device owes at launch, and the order of waiting -/

/-- The blocks device `c` still owes other devices' landings, those of the slots in `s`. -/
def owedX (c : Dev nD) (s : Finset (Fin 7)) : CellTallies nD τ sig Unit := ∑ j ∈ s, tallyAt (cell (fwd c j) (recvI j)) () Nx
/-- The units device `c` still owes other devices' barriers, those of the distances in `s`. -/
def owedB (c : Dev nD) (s : Finset (Fin 7)) : CellTallies nD τ sig Unit := ∑ j ∈ s, tallyAt (cell (fwd c j) barI) () 1
/-- What device `c` owes at launch. -/
def O₀ (c : Dev nD) : CellTallies nD τ sig Unit := owedX c Finset.univ + owedB c Finset.univ

/-- Cells of a TensorCore have a level. -/
def L (g : GSem nD τ sig) : Finset Unit := if g.1.2 = .tc then {()} else ∅
/-- The level of an index: barriers below landings, everything else below both. -/
def lvOf : CI → ℕ
  | .inl _ => 1
  | .inr (.inl _) => 0
  | .inr (.inr (.inl _)) => 2
  | .inr (.inr (.inr _)) => 0
/-- The level of a cell. -/
def lv (g : GSem nD τ sig) (_ : Unit) : ℕ := (kind g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) : lv (cell c k) () = lvOf k := by
  show (kind (csem k)).elim 0 lvOf = _
  rw [kind_csem]; rfl

/-- Whatever part of the landings a device owes sits at a landing. -/
theorem owedX_pos {c : Dev nD} {s : Finset (Fin 7)} {g : GSem nD τ sig} {u : Unit} (h : 0 < owedX c s g u) :
    ∃ d j, g = cell d (recvI j) := by
  unfold owedX at h
  rw [Finset.sum_apply, Finsupp.finsetSum_apply] at h
  obtain ⟨j, -, hj⟩ := Finset.exists_ne_zero_of_sum_ne_zero (Nat.pos_iff_ne_zero.mp h)
  rw [tallyAt_apply] at hj
  by_cases hg : g = cell (fwd c j) (recvI j)
  · exact ⟨_, j, hg⟩
  · exact absurd (if_neg fun h' => hg h'.1) hj
/-- Whatever part of the barrier units a device owes sits at a barrier. -/
theorem owedB_pos {c : Dev nD} {s : Finset (Fin 7)} {g : GSem nD τ sig} {u : Unit} (h : 0 < owedB c s g u) :
    ∃ d, g = cell d barI := by
  unfold owedB at h
  rw [Finset.sum_apply, Finsupp.finsetSum_apply] at h
  obtain ⟨j, -, hj⟩ := Finset.exists_ne_zero_of_sum_ne_zero (Nat.pos_iff_ne_zero.mp h)
  rw [tallyAt_apply] at hj
  by_cases hg : g = cell (fwd c j) barI
  · exact ⟨_, hg⟩
  · exact absurd (if_neg fun h' => hg h'.1) hj
/-- Whatever a device owes at launch sits at a landing or a barrier. -/
theorem O₀_pos {c : Dev nD} {g : GSem nD τ sig} {u : Unit} (h : 0 < O₀ c g u) :
    (∃ d j, g = cell d (recvI j)) ∨ ∃ d, g = cell d barI := by
  unfold O₀ at h
  rw [Pi.add_apply, Finsupp.add_apply] at h
  rcases Nat.add_pos_iff_pos_or_pos.mp h with h | h
  exacts [.inl (owedX_pos h), .inr (owedB_pos h)]

omit [FloatOps F] in
/-- A device owing blocks only may wait at its barrier. -/
theorem mayWait_bar (c : Dev nD) (s : Finset (Fin 7)) :
    (levAts L lv : sProp 𝕄) ⊢ MayWait (c : Thread nD τ) (.reg barQ) () (owedX c s) :=
  MayOwe.of_cut (L := L) (lev := lv) 1 (fun p hp => by rw [Finset.mem_singleton.mp hp, L_tc]; exact Finset.mem_singleton_self _)
    (fun g u hg => by obtain ⟨d, j, rfl⟩ := owedX_pos hg; exact Finset.mem_singleton_self _)
    (fun p hp => by rw [Finset.mem_singleton.mp hp]; exact le_of_eq (lv_cell c barI))
    (fun g u hg => by obtain ⟨d, j, rfl⟩ := owedX_pos hg; rw [lv_cell]; exact (by decide : 1 < 2))

omit [FloatOps F] in
/-- A device may wait at a staging semaphore at any time. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; show (kind (.dma q)).elim 0 lvOf ≤ 0; rw [hq]; exact le_refl 0)
      (fun g u hg => by
        rcases O₀_pos hg with ⟨d, j, rfl⟩ | ⟨d, rfl⟩
        · rw [lv_cell]; exact (by decide : 0 < 2)
        · rw [lv_cell]; exact (by decide : 0 < 1))
  · rw [MayWait_zero]; iintro -; iempintro

/-! ## The records and the ghost state of one device -/

/-- What every device knows: every cell follows the protocol, and its first round has begun. -/
def records (K : Dev nD × CI → ℕ) : sProp 𝕄 :=
  iprop((bigSep Finset.univ fun ck : Dev nD × CI => cellInv ER (Rd X Wt) (K ck) (cell ck.1 ck.2))
    ∗ bigSep Finset.univ fun ck : Dev nD × CI => reached ER (cell ck.1 ck.2) 0)

instance records_persistent (K : Dev nD × CI → ℕ) : BI.Persistent (records X Wt K) := by unfold records; infer_instance

/-- A cell's part of the records. -/
theorem records_at (K : Dev nD × CI → ℕ) (c : Dev nD) (k : CI) :
    records X Wt K ⊢ iprop(cellInv ER (Rd X Wt) (K (c, k)) (cell c k) ∗ reached ER (cell c k) 0) := by
  unfold records
  exact BIClass.sep_mono (bigSep_elim (Φ := fun ck : Dev nD × CI => cellInv ER (Rd X Wt) (K ck) (cell ck.1 ck.2)) (Finset.mem_univ (c, k)))
    (bigSep_elim (Φ := fun ck : Dev nD × CI => (reached ER (cell ck.1 ck.2) 0 : sProp 𝕄)) (Finset.mem_univ (c, k)))

/-- A device's standing at the start of the first round of each of its cells. -/
def standing (c : Dev nD) : sProp 𝕄 := bigSep Finset.univ fun k : CI => atPos ER (cell c k) 0 ∅ 0

/-- The rights device `c` pays its duties with: a unit to every other barrier, a block to every other device's landing,
its own sends, its own copies of `w`. -/
def rights (c : Dev nD) : sProp 𝕄 :=
  iprop((bigSep Finset.univ fun j : Fin 7 => dutyTok ER (cell (fwd c j) barI) 0 j.rev)
    ∗ (bigSep Finset.univ fun j : Fin 7 => dutyTok ER (cell (fwd c j) (recvI j)) 0 0)
    ∗ (bigSep Finset.univ fun j : Fin 7 => dutyTok ER (cell c (sendI j)) 0 0)
    ∗ (bigSep Finset.univ fun d : Fin 8 => dutyTok ER (cell c (wI d)) 0 0))

/-- What device `c` starts from: the records, its standing, its rights, the credit of its barrier and of its landings,
and the levels. -/
def start (c : Dev nD) : sProp 𝕄 :=
  iprop((∃ K, records X Wt K ∗ standing c ∗ rights c)
    ∗ cred (tallyAt (cell c barI) () 7) ∗ (bigSep Finset.univ fun j : Fin 7 => cred (tallyAt (cell c (recvI j)) () Nx))
    ∗ levAts L lv)

/-! ## Pieces of the buffers do not overlap -/

/-- Different slots of the landing buffer are apart. -/
theorem slot_disjoint {j j' : Fin 7} (h : j ≠ j') : Disjoint (slotM j).view.set (slotM j').view.set := by
  have h' : j.val ≠ j'.val := fun e => h (Fin.ext e)
  have hd : Disjoint (commM.view.slice (commR j)).set (commM.view.slice (commR j')).set := by
    refine View.disjoint_slice_of_sep _ (commR j) (commR j') 0 rfl rfl ?_
    show j.val + 1 ≤ j'.val ∨ j'.val + 1 ≤ j.val
    omega
  have e : ∀ i : Fin 7, (slotM i).view.set = (commM.view.slice (commR i)).set := fun i =>
    View.set_reshape (s' := S512x512) (commM.view.slice (commR i)) squeezes_S1x512x512_S512x512.numel_eq
  rw [e j, e j']
  exact hd
/-- Different slots of the buffer of blocks of `w` are apart. -/
theorem wslot_disjoint {d d' : Fin 8} (h : d ≠ d') : Disjoint (wslotM d).view.set (wslotM d').view.set := by
  have h' : d.val ≠ d'.val := fun e => h (Fin.ext e)
  have hd : Disjoint (wbufM.view.slice (wbufR d)).set (wbufM.view.slice (wbufR d')).set := by
    refine View.disjoint_slice_of_sep _ (wbufR d) (wbufR d') 0 rfl rfl ?_
    show d.val + 1 ≤ d'.val ∨ d'.val + 1 ≤ d.val
    omega
  have e : ∀ i : Fin 8, (wslotM i).view.set = (wbufM.view.slice (wbufR i)).set := fun i =>
    View.set_reshape (s' := S512x2048) (wbufM.view.slice (wbufR i)) squeezes_S1x512x2048_S512x2048.numel_eq
  rw [e d, e d']
  exact hd
/-- The row blocks a device sends are apart. -/
theorem src_disjoint (c : Dev nD) {j j' : Fin 7} (h : j ≠ j') : Disjoint (srcM c j).view.set (srcM c j').view.set := by
  have h' : j.val ≠ j'.val := fun e => h (Fin.ext e)
  have hc : c.val < 8 := c.isLt
  have hj := j.isLt; have hj' := j'.isLt
  refine View.disjoint_slice_of_sep _ (srcR c j) (srcR c j') 0 rfl rfl ?_
  show (k0_off2 c (BitVec.ofNat 32 (1 + j.val))) 0 + 512 ≤ (k0_off2 c (BitVec.ofNat 32 (1 + j'.val))) 0
    ∨ (k0_off2 c (BitVec.ofNat 32 (1 + j'.val))) 0 + 512 ≤ (k0_off2 c (BitVec.ofNat 32 (1 + j.val))) 0
  rw [k0_off2_eq, k0_off2_eq]
  show 512 * ((c.val + j.val + 1) % 8) + 512 ≤ 512 * ((c.val + j'.val + 1) % 8)
    ∨ 512 * ((c.val + j'.val + 1) % 8) + 512 ≤ 512 * ((c.val + j.val + 1) % 8)
  omega
/-- The row blocks of `w` are apart. -/
theorem wsrc_disjoint (c : Dev nD) {d d' : Fin 8} (h : d ≠ d') : Disjoint (wsrcM c d).view.set (wsrcM c d').view.set := by
  have h' : d.val ≠ d'.val := fun e => h (Fin.ext e)
  have hc : c.val < 8 := c.isLt
  have hd := d.isLt; have hd' := d'.isLt
  refine View.disjoint_slice_of_sep _ (wsrcR c d) (wsrcR c d') 0 rfl rfl ?_
  show (k0_off1 c (BitVec.ofNat 32 d.val)) 0 + 512 ≤ (k0_off1 c (BitVec.ofNat 32 d'.val)) 0
    ∨ (k0_off1 c (BitVec.ofNat 32 d'.val)) 0 + 512 ≤ (k0_off1 c (BitVec.ofNat 32 d.val)) 0
  rw [k0_off1_eq, k0_off1_eq]
  show 512 * ((c.val + 8 - d.val) % 8) + 512 ≤ 512 * ((c.val + 8 - d'.val) % 8)
    ∨ 512 * ((c.val + 8 - d'.val) % 8) + 512 ≤ 512 * ((c.val + 8 - d.val) % 8)
  omega
/-- The row block a device keeps is apart from those it sends. -/
theorem own_disjoint (c : Dev nD) (j : Fin 7) : Disjoint (x8M.access (ownR c)).set (srcM c j).view.set := by
  have hc : c.val < 8 := c.isLt
  have hj := j.isLt
  refine View.disjoint_slice_of_sep _ (ownR c) (srcR c j) 0 rfl rfl ?_
  show (k0_off3 c) 0 + 512 ≤ (k0_off2 c (BitVec.ofNat 32 (1 + j.val))) 0
    ∨ (k0_off2 c (BitVec.ofNat 32 (1 + j.val))) 0 + 512 ≤ (k0_off3 c) 0
  rw [k0_off3_eq, k0_off2_eq]
  show 512 * c.val + 512 ≤ 512 * ((c.val + j.val + 1) % 8) ∨ 512 * ((c.val + j.val + 1) % 8) + 512 ≤ 512 * c.val
  omega

end Cert.KernelIdeal.Exchange

end
-- ==== Proof.KernelIdeal.Loops.lean ====
/-
# The loops, run

Each loop of the program, run over any list of slots without repetition: what it needs of every slot listed, and what it
leaves. Every lemma is by induction on the list.
-/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` ends with `Q`. -/
abbrev Runs (c : Dev nD) (p : P F) (Q : PUnit.{1} → sProp 𝕄) : sProp 𝕄 :=
  wp frame (wpE (defs₀ (F := F)) 𝒱₀ (c : Thread nD τ) none) Set.univ p Q

/-- A conjunction over a set and one more element is the element's part and the set's. -/
theorem peel {I : Type} [DecidableEq I] {s : Finset I} {i : I} (hi : i ∉ s) {Φ : I → sProp 𝕄} :
    bigSep (insert i s) Φ = iprop(Φ i ∗ bigSep s Φ) := bigSep_insert hi

/-! ## What one block adds -/

/-- The product of a row block of the narrowed `x` with a block of `w`, narrowed. -/
def mm (x : FVec F S512x512 .fp8e4m3) (w : FVec F S512x2048 .f32) : FVec F S512x2048 .f32 :=
  matmul dot_S512x512_S512x2048_S512x2048_1_0_0_1_n_n none x (truncf .fp8e4m3 w bitsLt_fp8e4m3_f32) (constant S512x2048 .f32 0x00000000#32)
/-- The result block `a` with that product added. -/
def step (x : FVec F S512x512 .fp8e4m3) (w : FVec F S512x2048 .f32) (a : FVec F S512x2048 .f32) : FVec F S512x2048 .f32 :=
  addf (shapeCast S512x2048 a shapeCasts_S512x2048_S512x2048) (mm x w)

/-- A slot of the landing buffer is the slot's rectangle. -/
theorem slot_set (j : Fin 7) : (slotM j).view.set = (commM.access (commR j)).set :=
  View.set_reshape (s' := S512x512) (commM.view.slice (commR j)) squeezes_S1x512x512_S512x512.numel_eq
/-- A slot of the buffer of blocks of `w` is the slot's rectangle. -/
theorem wslot_set (d : Fin 8) : (wslotM d).view.set = (wbufM.access (wbufR d)).set :=
  View.set_reshape (s' := S512x2048) (wbufM.view.slice (wbufR d)) squeezes_S1x512x2048_S512x2048.numel_eq

/-- What the program stores after reading a slot of each buffer, in terms of the slots' contents. -/
theorem pay7_eq (j : Fin 7) (d : Fin 8) (f : (cc0_scratch1 : Ref sig .tc).ty.Contents (Elt F))
    (g : (cc0_scratch2 : Ref sig .tc).ty.Contents (Elt F)) (a : FVec F S512x2048 .f32) :
    k0_pay7 ((commM.access (commR j)).read (Elt F) f) ((wbufM.access (wbufR d)).read (Elt F) g) a
      = step ((slotM j).view.read (Elt F) f) ((wslotM d).view.read (Elt F) g) a := rfl
/-- What the program first stores, in terms of the contents of the first slot. -/
theorem pay2_eq (x : FVec F S512x512 .fp8e4m3) (g : (cc0_scratch2 : Ref sig .tc).ty.Contents (Elt F)) :
    k0_pay2 x ((wbufM.access (wbufR 0)).read (Elt F) g) = mm x ((wslotM 0).view.read (Elt F) g) := rfl

theorem hz2 : (![0, 0] : Fin 2 → Nat) = fun _ => 0 := funext fun a => by fin_cases a <;> rfl

/-- Reading the whole result block reads what it holds. -/
theorem read_o (f : (cc0_stg3_0 : Ref sig .tc).ty.Contents (Elt F)) :
    (oM : Memref sig .tc .vmem S512x2048 .f32).view.readAt (Elt F) oR.toLoadRect f = f :=
  Memref.readAt_unit_zero (Elt F) cc0_stg3_0 hz2 _ f
/-- Writing the whole result block leaves what was written. -/
theorem write_o (f w : (cc0_stg3_0 : Ref sig .tc).ty.Contents (Elt F)) :
    ((oM : Memref sig .tc .vmem S512x2048 .f32).access oR : View sig .tc _ _ _).write (Elt F) f w Finset.univ = w :=
  Memref.write_access_unit_zero_univ (Elt F) cc0_stg3_0 hz2 _ f w

/-- Device `c`'s result block, holding `a`. -/
abbrev oPts (c : Dev nD) (a : (cc0_stg3_0 : Ref sig .tc).ty.Contents (Elt F)) : sProp 𝕄 :=
  ((c : Thread nD τ).loc cc0_stg3_0) ↦{fullShare} a

variable (X : Dev nD → (cc0_stg0_0 : Ref sig .tc).ty.Contents (Elt F))
  (Wt : Dev nD → (main_arg1 : Ref sig .tc).ty.Contents (Elt F))
variable (K : Dev nD × CI → ℕ) (c : Dev nD) (k : P F)

/-! ## The copies of `w` -/

/-- A copied block of `w` is what its semaphore hands over. -/
theorem copied (d : Fin 8) (f : Buf (Elt F) ((wslotM d).view.loc (c : Thread nD τ))) :
    iprop(((wslotM d).view.loc (c : Thread nD τ) ↦[(wslotM d).view.set]{fullShare}
          ((wslotM d).view.write (Elt F) f ((wsrcM c d).view.read (Elt F) (Wt c)) Finset.univ))
        ∗ ((wsrcM c d).view.loc (c : Thread nD τ) ↦[(wsrcM c d).view.set]{fullShare} Wt c))
      ⊢ ((Rd X Wt).payload (cell c (wI d)) 0 0 : sProp 𝕄) := by
  rw [payload_cell]
  show _ ⊢ fetched Wt c d
  unfold fetched wslotPts wsrcPts
  iintro ⟨H1, H2⟩
  isplitl [H1]
  · iexists (wslotM d).view.write (Elt F) f ((wsrcM c d).view.read (Elt F) (Wt c)) Finset.univ
    isplitr; · ipureintro; exact View.read_write_univ _ _
    iexact H1
  · iexact H2

/-- The loop starting the copies of `w`: from the rows, the slots and the rights to the credit of each copy. -/
theorem run_startW (Q : PUnit.{1} → sProp 𝕄) : ∀ l : List (Fin 8), l.Nodup →
    iprop(records X Wt K
        ∗ bigSep l.toFinset fun d => iprop(wsrcPts Wt c d ∗ (∃ f, wslotPts c d f) ∗ dutyTok ER (cell c (wI d)) 0 0))
      ⊢ iprop(((bigSep l.toFinset fun d => cred (tallyAt (cell c (wI d)) () Nw)) -∗ Runs c k Q) -∗ Runs c (startW c l k) Q)
  | [], _ => by
    simp only [startW, List.toFinset_nil, bigSep_empty]
    iintro ⟨-, -⟩ Hk
    iapply Hk
    iempintro
  | d :: l, h => by
    obtain ⟨hd, hl⟩ := List.nodup_cons.mp h
    have hd' : d ∉ l.toFinset := fun h => hd (List.mem_toFinset.mp h)
    rw [List.toFinset_cons, peel hd', peel hd']
    unfold startW wsrcPts wslotPts
    iintro ⟨#HR, ⟨Hs, ⟨%f, Hd⟩, Ht⟩, Hl⟩ Hk
    ihave Hr := (records_at X Wt K c (wI d)) $$ HR
    icases Hr with ⟨#HI, #Hr⟩
    iapply (Rounds.wp_copy_pointsTo 𝒱₀ ER (Rd X Wt) (c : Thread nD τ) none (src := wsrcM c d) (dst := wslotM d)
        (sem := .dma (wQ d)) (κ := K (c, wI d)) (r := 0) (d := 0) (fs := Wt c) (fd := f) (q := fullShare)
        (by rw [show ((c : Thread nD τ), SemLoc.dma (wQ d)) = cell c (wI d) from rfl, duties_cell]; exact Finset.mem_singleton_self _)
        () Nw rfl (amount_cell X Wt c (wI d) 0) (copied X Wt c d f)) $$ [Hs Hd Ht]
    · isplitr; · iexact HI
      isplitl [Hs]; · iexact Hs
      isplitl [Hd]; · iexact Hd
      isplitl [Ht]; · iexact Ht
      iexact Hr
    iintro Hc
    iapply (run_startW Q l hl) $$ [Hl]
    · isplitr; · iexact HR
      unfold wsrcPts wslotPts
      iexact Hl
    iintro Hcs
    iapply Hk
    isplitl [Hc]; · iexact Hc
    iexact Hcs

/-! ## The signals -/

/-- The loop signalling the other devices' barriers: each signal hands over the slot its receiver is to fill. -/
theorem run_signalAll (Q : PUnit.{1} → sProp 𝕄) (O : CellTallies nD τ sig Unit) (W : Waits sig Unit) : ∀ l : List (Fin 7), l.Nodup →
    iprop(records X Wt K ∗ owes (c : Thread nD τ) (O + owedB c l.toFinset) W
        ∗ bigSep l.toFinset fun j => iprop(offered c j.rev ∗ dutyTok ER (cell (fwd c j) barI) 0 j.rev))
      ⊢ iprop((owes (c : Thread nD τ) O W -∗ Runs c k Q) -∗ Runs c (signalAll c l k) Q)
  | [], _ => by
    simp only [signalAll, List.toFinset_nil, bigSep_empty, owedB, Finset.sum_empty, add_zero]
    iintro ⟨-, Ho, -⟩ Hk
    iapply Hk
    iexact Ho
  | j :: l, h => by
    obtain ⟨hj, hl⟩ := List.nodup_cons.mp h
    have hj' : j ∉ l.toFinset := fun h => hj (List.mem_toFinset.mp h)
    have hO : O + owedB c (insert j l.toFinset) = (O + owedB c l.toFinset) + tallyAt (cell (fwd c j) barI) () 1 := by
      unfold owedB; rw [Finset.sum_insert hj', add_comm (tallyAt _ _ _), add_assoc]
    have hp : (Rd X Wt).payload (cell (fwd c j) barI) 0 j.rev = offered c j.rev := by
      rw [payload_cell]
      show offered (fwd (fwd c j) j.rev) j.rev = _
      rw [fwd_fwd_rev]
    rw [List.toFinset_cons, peel hj', hO]
    unfold signalAll
    rw [sigDev_eq]
    iintro ⟨#HR, Ho, ⟨Hf, Ht⟩, Hl⟩ Hk
    ihave Hr := (records_at X Wt K (fwd c j) barI) $$ HR
    icases Hr with ⟨#HI, #Hr⟩
    iapply (Rounds.wp_signal 𝒱₀ ER (Rd X Wt) (c : Thread nD τ) none (dst := (fwd c j : Thread nD τ)) (sem := barQ)
        (κ := K (fwd c j, barI)) (r := 0) (d := j.rev)
        (by rw [show ((fwd c j : Thread nD τ), SemLoc.reg barQ) = cell (fwd c j) barI from rfl, duties_cell]; exact Finset.mem_univ _)
        ((amount_cell X Wt (fwd c j) barI j.rev).trans (by decide)) () (O + owedB c l.toFinset) rfl) $$ [Ho Ht Hf]
    · isplitr; · iexact HI
      isplitl [Ho]; · iexact Ho
      isplitl [Ht]; · iexact Ht
      isplitl [Hf]
      · rw [hp]; iexact Hf
      iexact Hr
    iintro Ho
    iapply (run_signalAll Q O W l hl) $$ [Ho Hl]
    · isplitr; · iexact HR
      isplitl [Ho]; · iexact Ho
      iexact Hl
    iexact Hk

/-! ## The sends -/

/-- A sent block of `x`, landed, is what the landing hands over. -/
theorem sent (j : Fin 7) (f : Buf (Elt F) ((slotM j).view.loc (fwd c j : Thread nD τ))) :
    ((slotM j).view.loc (fwd c j : Thread nD τ) ↦[(slotM j).view.set]{fullShare}
        ((slotM j).view.write (Elt F) f ((srcM c j).view.read (Elt F) (x8 X c)) Finset.univ))
      ⊢ ((Rd X Wt).payload (cell (fwd c j) (recvI j)) 0 0 : sProp 𝕄) := by
  rw [payload_cell]
  show _ ⊢ landed X (fwd c j) j
  unfold landed slotPts snd
  rw [fwd_fwd_rev]
  iintro H
  iexists (slotM j).view.write (Elt F) f ((srcM c j).view.read (Elt F) (x8 X c)) Finset.univ
  isplitr; · ipureintro; exact View.read_write_univ _ _
  iexact H

/-- One send. -/
theorem run_send (Q : PUnit.{1} → sProp 𝕄) (j : Fin 7) (n : Dev nD) (hn : n = fwd c j) (O : CellTallies nD τ sig Unit) (W : Waits sig Unit)
    {hsrc : (srcM c j).view.WordExact} {hdst : (slotM j).view.WordExact} {hsc}
    {hsem : DmaTarget.Typed .vmem (.dma (recvQ j)) (.remote (Dev.tc n : Thread nD τ) (slotM j) (.dma (sendQ j)) hsc)}
    (k : PUnit → P F) :
    iprop(records X Wt K ∗ srcPts X c j ∗ offered (fwd c j) j ∗ owes (c : Thread nD τ) (O + tallyAt (cell (fwd c j) (recvI j)) () Nx) W
        ∗ dutyTok ER (cell c (sendI j)) 0 0 ∗ dutyTok ER (cell (fwd c j) (recvI j)) 0 0)
      ⊢ iprop(((cred (tallyAt (cell c (sendI j)) () Nx) ∗ owes (c : Thread nD τ) O W) -∗ Runs c (k ⟨⟩) Q)
          -∗ Runs c (.op (.enqueueDma (srcM c j) (.remote (Dev.tc n : Thread nD τ) (slotM j) (.dma (sendQ j)) hsc) (.dma (recvQ j)) hsrc hdst hsem) k) Q) := by
  subst hn
  unfold offered srcPts slotPts
  iintro ⟨#HR, Hs, ⟨%f, Hd⟩, Ho, Ht₁, Ht₂⟩ Hk
  ihave Hr := (records_at X Wt K c (sendI j)) $$ HR
  icases Hr with ⟨#HI₁, #Hr₁⟩
  ihave Hr := (records_at X Wt K (fwd c j) (recvI j)) $$ HR
  icases Hr with ⟨#HI₂, #Hr₂⟩
  iapply (Rounds.wp_send_pointsTo 𝒱₀ ER (Rd X Wt) (c : Thread nD τ) none (c' := (fwd c j : Thread nD τ)) (src := srcM c j) (dst := slotM j)
      (sS := .dma (sendQ j)) (sem := .dma (recvQ j)) (κ₁ := K (c, sendI j)) (κ₂ := K (fwd c j, recvI j))
      (r₁ := 0) (r₂ := 0) (d₁ := 0) (d₂ := 0) (fs := x8 X c) (fd := f) (q := fullShare)
      (by rw [show ((c : Thread nD τ), SemLoc.dma (sendQ j)) = cell c (sendI j) from rfl, duties_cell]; exact Finset.mem_singleton_self _)
      (by rw [show ((fwd c j : Thread nD τ), SemLoc.dma (recvQ j)) = cell (fwd c j) (recvI j) from rfl, duties_cell]; exact Finset.mem_singleton_self _)
      () () Nx rfl (amount_cell X Wt c (sendI j) 0) (amount_cell X Wt (fwd c j) (recvI j) 0) O rfl
      (by
        rw [show ((c : Thread nD τ), SemLoc.dma (sendQ j)) = cell c (sendI j) from rfl, payload_cell]
        show _ ⊢ srcPts X c j
        unfold srcPts
        exact BI.Entails.refl _)
      (sent X Wt c j f)) $$ [Hs Hd Ho Ht₁ Ht₂]
  · isplitr; · iexact HI₁
    isplitr; · iexact HI₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iexact Hk

/-- The loop sending the row blocks of `x`: from the rows, the slots offered and the rights to the credit of each send. -/
theorem run_sendAll (Q : PUnit.{1} → sProp 𝕄) (W : Waits sig Unit) : ∀ l : List (Fin 7), l.Nodup →
    iprop(records X Wt K ∗ owes (c : Thread nD τ) (owedX c l.toFinset) W
        ∗ bigSep l.toFinset fun j => iprop(srcPts X c j ∗ offered (fwd c j) j
            ∗ dutyTok ER (cell c (sendI j)) 0 0 ∗ dutyTok ER (cell (fwd c j) (recvI j)) 0 0))
      ⊢ iprop((((bigSep l.toFinset fun j => cred (tallyAt (cell c (sendI j)) () Nx)) ∗ owes (c : Thread nD τ) 0 W) -∗ Runs c k Q)
          -∗ Runs c (sendAll c l k) Q)
  | [], _ => by
    simp only [sendAll, List.toFinset_nil, bigSep_empty, owedX, Finset.sum_empty]
    iintro ⟨-, Ho, -⟩ Hk
    iapply Hk
    isplitr; · iempintro
    iexact Ho
  | j :: l, h => by
    obtain ⟨hj, hl⟩ := List.nodup_cons.mp h
    have hj' : j ∉ l.toFinset := fun h => hj (List.mem_toFinset.mp h)
    have hO : owedX c (insert j l.toFinset) = owedX c l.toFinset + tallyAt (cell (fwd c j) (recvI j)) () Nx := by
      unfold owedX; rw [Finset.sum_insert hj', add_comm]
    rw [List.toFinset_cons, peel hj', peel hj', hO]
    unfold sendAll
    iintro ⟨#HR, Ho, ⟨Hs, Hf, Ht₁, Ht₂⟩, Hl⟩ Hk
    iapply (run_send X Wt K c Q j (sendDev c j) (sendDev_eq c j) (owedX c l.toFinset) W _) $$ [Hs Hf Ho Ht₁ Ht₂]
    · isplitr; · iexact HR
      isplitl [Hs]; · iexact Hs
      isplitl [Hf]; · iexact Hf
      isplitl [Ho]; · iexact Ho
      isplitl [Ht₁] <;> iassumption
    iintro ⟨Hc, Ho⟩
    iapply (run_sendAll Q W l hl) $$ [Ho Hl]
    · isplitr; · iexact HR
      isplitl [Ho]; · iexact Ho
      iexact Hl
    iintro ⟨Hcs, Ho⟩
    iapply Hk
    isplitl [Hc Hcs]
    · isplitl [Hc]; · iexact Hc
      iexact Hcs
    iexact Ho

/-! ## The waits -/

/-- A wait for the whole round of one of the device's own transfers, nothing owed: it ends with what the transfer hands
over. -/
theorem run_wait (Q : PUnit.{1} → sProp 𝕄) (i : Fin 7 ⊕ Fin 7 ⊕ Fin 8) {w : TpuEff nD τ sig (Elt F) Λ₀ .tc PUnit}
    (hw : ∀ R : PUnit → sProp 𝕄, wpE (defs₀ (F := F)) 𝒱₀ (c : Thread nD τ) none Set.univ w R
      = waitSpec (c : Thread nD τ) Set.univ (osem i) (amountOf (.inr i)) R) (k : PUnit → P F) (W : Waits sig Unit) :
    iprop(records X Wt K ∗ cred (tallyAt (cell c (.inr i)) () (amountOf (.inr i))) ∗ owes (c : Thread nD τ) 0 W
        ∗ atPos ER (cell c (.inr i)) 0 ∅ 0)
      ⊢ iprop(((owes (c : Thread nD τ) 0 (insert (osem i, ()) W) ∗ atPos ER (cell c (.inr i)) 1 ∅ 0 ∗ payOf X Wt c 0 (.inr i))
            -∗ Runs c (k ⟨⟩) Q) -∗ Runs c (.op w k) Q) := by
  iintro ⟨#HR, Hc, Ho, Hat⟩ Hk
  ihave Hr := (records_at X Wt K c (.inr i)) $$ HR
  icases Hr with ⟨#HI, -⟩
  iapply (Rounds.wp_wait_rest_token 𝒱₀ ER (Rd X Wt) (c : Thread nD τ) none (κ := K (c, .inr i)) hw (Set.mem_univ _) ()
      (O := 0) (W := W) (R := 0) (m := 0) (T := ∅) (by
        rw [Nat.zero_add, show ((c : Thread nD τ), osem i) = cell c (.inr i) from rfl, expect_own])) $$ [Hc Ho Hat]
  · isplitr; · iexact HI
    isplitl [Hc]; · iexact Hc
    isplitl [Ho]; · iexact Ho
    isplitr; · rw [MayWait_zero]; iempintro
    iexact Hat
  iintro ⟨Ho, Hat, -, Hp⟩
  ihave Hp := (Entails.of_eq (rest_own X Wt c i)) $$ Hp
  iapply Hk
  isplitl [Ho]; · iexact Ho
  isplitl [Hat]; · iexact Hat
  iexact Hp

/-- The result block after the listed slots have been added to `a`, in order. -/
def accL (l : List (Fin 7)) (a : FVec F S512x2048 .f32) : FVec F S512x2048 .f32 :=
  l.foldl (fun a j => step (xblk X (snd c j) j) (wblk Wt c (nxt8 j)) a) a

/-- A slot of the buffer of blocks of `w` and the rows copied from, once the slot has been read. -/
def spent (d : Fin 8) : sProp 𝕄 := iprop((∃ f, wslotPts c d f) ∗ wsrcPts Wt c d)

set_option maxHeartbeats 2000000 in
/-- The loop adding the other devices' blocks: from the credit and the standing at both semaphores of every listed slot
to the result block with the products added; the slots come back. -/
theorem run_addAll (Q : PUnit.{1} → sProp 𝕄) : ∀ (l : List (Fin 7)) (a : FVec F S512x2048 .f32), l.Nodup →
    iprop(records X Wt K ∗ (∃ W, owes (c : Thread nD τ) 0 W) ∗ oPts c a
        ∗ bigSep l.toFinset fun j => iprop((cred (tallyAt (cell c (recvI j)) () Nx) ∗ atPos ER (cell c (recvI j)) 0 ∅ 0)
            ∗ cred (tallyAt (cell c (wI (nxt8 j))) () Nw) ∗ atPos ER (cell c (wI (nxt8 j))) 0 ∅ 0))
      ⊢ iprop((((∃ W, owes (c : Thread nD τ) 0 W) ∗ oPts c (accL X Wt c l a)
          ∗ bigSep l.toFinset fun j => iprop((offered c j ∗ atPos ER (cell c (recvI j)) 1 ∅ 0)
              ∗ spent Wt c (nxt8 j) ∗ atPos ER (cell c (wI (nxt8 j))) 1 ∅ 0))
            -∗ Runs c k Q) -∗ Runs c (addAll c l k) Q)
  | [], a, _ => by
    simp only [addAll, List.toFinset_nil, bigSep_empty]
    iintro ⟨-, Ho, Ha, -⟩ Hk
    iapply Hk
    isplitl [Ho]; · iexact Ho
    isplitl [Ha]; · iexact Ha
    iempintro
  | j :: l, a, h => by
    obtain ⟨hj, hl⟩ := List.nodup_cons.mp h
    have hj' : j ∉ l.toFinset := fun h => hj (List.mem_toFinset.mp h)
    rw [List.toFinset_cons, peel hj', peel hj']
    unfold addAll
    iintro ⟨#HR, ⟨%W, Ho⟩, Ha, ⟨⟨Hcx, Hax⟩, Hcw, Haw⟩, Hl⟩ Hk
    iapply (run_wait X Wt K c Q (.inr (.inl j)) (w := .waitDma2 (recvQ j) firstM (slotM j) exact_first (exact_slot j)) (fun R => wpE_waitDma2_eq 𝒱₀ (c : Thread nD τ) none Set.univ R) _ W) $$ [Hcx Ho Hax]
    · isplitr; · iexact HR
      isplitl [Hcx]; · iexact Hcx
      isplitl [Ho]; · iexact Ho
      iexact Hax
    iintro ⟨Ho, Hax, Hp⟩
    ihave Hp := (show payOf X Wt c 0 (recvI j) ⊢ landed X c j from BI.Entails.refl _) $$ Hp
    unfold landed slotPts
    icases Hp with ⟨%f, %hf, Hx⟩
    iapply (wp_load_rect 𝒱₀ (c : Thread nD τ) none Set.univ (m := commM) (r := commR j) (f := f) (S := (slotM j).view.set)
      (subset_of_eq (slot_set j).symm)) $$ Hx
    iintro Hx
    iapply (run_wait X Wt K c Q (.inr (.inr (nxt8 j)))
        (w := .waitDma2 (wQ (nxt8 j)) (wsrcM c (nxt8 j)) (wslotM (nxt8 j)) (exact_wsrc c (nxt8 j)) (exact_wslot (nxt8 j))) (fun R => wpE_waitDma2_eq 𝒱₀ (c : Thread nD τ) none Set.univ R) _ _) $$ [Hcw Ho Haw]
    · isplitr; · iexact HR
      isplitl [Hcw]; · iexact Hcw
      isplitl [Ho]; · iexact Ho
      iexact Haw
    iintro ⟨Ho, Haw, Hp⟩
    ihave Hp := (show payOf X Wt c 0 (wI (nxt8 j)) ⊢ fetched Wt c (nxt8 j) from BI.Entails.refl _) $$ Hp
    unfold fetched wslotPts
    icases Hp with ⟨⟨%g, %hg, Hw⟩, Hs⟩
    iapply (wp_load_rect 𝒱₀ (c : Thread nD τ) none Set.univ (m := wbufM) (r := wbufR (nxt8 j)) (f := g) (S := (wslotM (nxt8 j)).view.set)
      (subset_of_eq (wslot_set (nxt8 j)).symm)) $$ Hw
    iintro Hw
    iapply (wp_load 𝒱₀ (c : Thread nD τ) none Set.univ (m := oM) (Finset.subset_univ _)) $$ Ha
    iintro Ha
    iapply (wp_load 𝒱₀ (c : Thread nD τ) none Set.univ (m := oM) (Finset.subset_univ _)) $$ Ha
    iintro Ha
    iapply (wp_store 𝒱₀ (c : Thread nD τ) none Set.univ (m := oM) (r := oR) (Mk := Finset.univ) (Finset.subset_univ _)) $$ Ha
    iintro Ha
    rw [write_o, read_o, pay7_eq, hf, hg]
    iapply (run_addAll Q l _ hl) $$ [Ho Ha Hl]
    · isplitr; · iexact HR
      isplitl [Ho]; · iexists _; iexact Ho
      isplitl [Ha]; · iexact Ha
      iexact Hl
    iintro ⟨Ho, Ha, Hl⟩
    iapply Hk
    isplitl [Ho]; · iexact Ho
    isplitl [Ha]; · iexact Ha
    isplitr [Hl]
    · isplitl [Hx Hax]
      · isplitl [Hx]
        · unfold offered slotPts; iexists f; iexact Hx
        · iexact Hax
      isplitl [Hw Hs]
      · unfold spent wslotPts
        isplitl [Hw]
        · iexists g; iexact Hw
        · iexact Hs
      iexact Haw
    iexact Hl

/-- The loop waiting for the sends: every listed send's rows come back. -/
theorem run_waitSends (Q : PUnit.{1} → sProp 𝕄) : ∀ l : List (Fin 7), l.Nodup →
    iprop(records X Wt K ∗ (∃ W, owes (c : Thread nD τ) 0 W)
        ∗ bigSep l.toFinset fun j => iprop(cred (tallyAt (cell c (sendI j)) () Nx) ∗ atPos ER (cell c (sendI j)) 0 ∅ 0))
      ⊢ iprop((((∃ W, owes (c : Thread nD τ) 0 W)
          ∗ bigSep l.toFinset fun j => iprop(srcPts X c j ∗ atPos ER (cell c (sendI j)) 1 ∅ 0))
            -∗ Runs c k Q) -∗ Runs c (waitSends c l k) Q)
  | [], _ => by
    simp only [waitSends, List.toFinset_nil, bigSep_empty]
    iintro ⟨-, Ho, -⟩ Hk
    iapply Hk
    isplitl [Ho]; · iexact Ho
    iempintro
  | j :: l, h => by
    obtain ⟨hj, hl⟩ := List.nodup_cons.mp h
    have hj' : j ∉ l.toFinset := fun h => hj (List.mem_toFinset.mp h)
    rw [List.toFinset_cons, peel hj', peel hj']
    unfold waitSends
    iintro ⟨#HR, ⟨%W, Ho⟩, ⟨Hc, Hat⟩, Hl⟩ Hk
    iapply (run_wait X Wt K c Q (.inl j) (w := .waitDma2 (sendQ j) (slotM j) (srcM c j) (exact_slot j) (exact_src c j)) (fun R => wpE_waitDma2_eq 𝒱₀ (c : Thread nD τ) none Set.univ R) _ W) $$ [Hc Ho Hat]
    · isplitr; · iexact HR
      isplitl [Hc]; · iexact Hc
      isplitl [Ho]; · iexact Ho
      iexact Hat
    iintro ⟨Ho, Hat, Hp⟩
    ihave Hp := (show payOf X Wt c 0 (sendI j) ⊢ srcPts X c j from BI.Entails.refl _) $$ Hp
    iapply (run_waitSends Q l hl) $$ [Ho Hl]
    · isplitr; · iexact HR
      isplitl [Ho]; · iexists _; iexact Ho
      iexact Hl
    iintro ⟨Ho, Hl⟩
    iapply Hk
    isplitl [Ho]; · iexact Ho
    isplitr [Hl]
    · isplitl [Hp]; · iexact Hp
      iexact Hat
    iexact Hl

end Cert.KernelIdeal.Exchange

end
-- ==== Proof.KernelIdeal.Body.lean ====
/-
# The program of one device, run

The buffers are cut into the pieces the loops work on, the program is run loop by loop, and the pieces are put back
together.
-/
module

public import proofs.«01_k».proof.Proof.KernelIdeal.Loops

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting a buffer and putting it together -/

/-- A buffer is pieces that do not overlap, and the rest. -/
theorem cut {n : ℕ} (ℓ : Loc nD τ sig) (f : Buf (Elt F) ℓ) (P : Fin n → Finset (Idx ℓ))
    (hP : ∀ t t', t ≠ t' → Disjoint (P t) (P t')) :
    ((ℓ ↦{fullShare} f : sProp 𝕄)) ⊣⊢ iprop((bigSep Finset.univ fun t => ℓ ↦[P t]{fullShare} f)
      ∗ ℓ ↦[Finset.univ \ Finset.univ.biUnion P]{fullShare} f) := by
  rw [← pointsTo_biUnion Finset.univ P fun t _ t' _ h => hP t t' h]
  exact pointsTo_split_subset (Finset.subset_univ _)

/-- Pieces that do not overlap, whatever they hold, and the rest are the buffer, holding something. -/
theorem paste {n : ℕ} (ℓ : Loc nD τ sig) (f : Buf (Elt F) ℓ) (P : Fin n → Finset (Idx ℓ))
    (hP : ∀ t t', t ≠ t' → Disjoint (P t) (P t')) :
    iprop((bigSep Finset.univ fun t => iprop(∃ g : Buf (Elt F) ℓ, ℓ ↦[P t]{fullShare} g))
        ∗ ℓ ↦[Finset.univ \ Finset.univ.biUnion P]{fullShare} f)
      ⊢ (iprop(∃ g : Buf (Elt F) ℓ, ℓ ↦{fullShare} g) : sProp 𝕄) := by
  haveI : ∀ _ : Fin n, Nonempty (Buf (Elt F) ℓ) := fun _ => ⟨f⟩
  iintro ⟨H, Hr⟩
  ihave H := (BI.bigSep_exists_pi Finset.univ fun (t : Fin n) (g : Buf (Elt F) ℓ) => (ℓ ↦[P t]{fullShare} g : sProp 𝕄)) $$ H
  icases H with ⟨%g, H⟩
  ihave H := (pointsTo_biUnion_join Finset.univ P g f fun t _ t' _ h => hP t t' h) $$ H
  icases H with ⟨%g', -, H⟩
  iexists (Finset.univ.biUnion P).piecewise g' f
  iapply (pointsTo_join_subset (Finset.subset_univ _))
  isplitl [H] <;> iassumption

/-- A conjunction over eight slots is the first slot's part and the parts of the seven that follow. -/
theorem bigSep8 (Φ : Fin 8 → sProp 𝕄) :
    bigSep Finset.univ Φ = iprop(Φ 0 ∗ bigSep Finset.univ fun j : Fin 7 => Φ (nxt8 j)) := by
  rw [Fin.univ_succ, Finset.cons_eq_insert, peel (by simp), bigSep_map]
  rfl

/-- A conjunction over a device's cells, kind by kind. -/
theorem bigSepCI (Φ : CI → sProp 𝕄) :
    bigSep Finset.univ Φ = iprop(Φ barI ∗ (bigSep Finset.univ fun j => Φ (sendI j)) ∗ (bigSep Finset.univ fun j => Φ (recvI j))
      ∗ Φ (wI 0) ∗ bigSep Finset.univ fun j : Fin 7 => Φ (wI (nxt8 j))) := by
  rw [BI.bigSep_univ_sum, BI.bigSep_univ_sum, BI.bigSep_univ_sum, bigSep8 fun d => Φ (wI d),
    show (Finset.univ : Finset Unit) = {()} from rfl, bigSep_singleton]
  rfl

/-- What everyone knows can be used for every member of a conjunction. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (X : Dev nD → (cc0_stg0_0 : Ref sig .tc).ty.Contents (Elt F))
  (Wt : Dev nD → (main_arg1 : Ref sig .tc).ty.Contents (Elt F))
variable (K : Dev nD × CI → ℕ) (c : Dev nD)

/-- The part of the narrowed columns that is not sent. -/
def x8Rest : sProp 𝕄 :=
  ((c : Thread nD τ).loc cc0_scratch0) ↦[Finset.univ \ Finset.univ.biUnion fun j : Fin 7 => (srcM c j).view.set]{fullShare} x8 X c
/-- The narrowed columns, cut. -/
theorem cut_x8 : (((c : Thread nD τ).loc cc0_scratch0) ↦{fullShare} x8 X c : sProp 𝕄)
    ⊣⊢ iprop((bigSep Finset.univ fun j => srcPts X c j) ∗ x8Rest X c) :=
  cut ((c : Thread nD τ).loc cc0_scratch0) (x8 X c) (fun j => (srcM c j).view.set) fun _ _ h => src_disjoint c h

/-- The part of `w` that is not copied (none, in fact). -/
def wRest : sProp 𝕄 :=
  ((c : Thread nD τ).loc main_arg1) ↦[Finset.univ \ Finset.univ.biUnion fun d : Fin 8 => (wsrcM c d).view.set]{fullShare} Wt c
/-- `w`, cut. -/
theorem cut_w : (((c : Thread nD τ).loc main_arg1) ↦{fullShare} Wt c : sProp 𝕄)
    ⊣⊢ iprop((bigSep Finset.univ fun d => wsrcPts Wt c d) ∗ wRest Wt c) :=
  cut ((c : Thread nD τ).loc main_arg1) (Wt c) (fun d => (wsrcM c d).view.set) fun _ _ h => wsrc_disjoint c h

/-- The part of the landing buffer that is in no slot. -/
def commRest : sProp 𝕄 :=
  iprop(∃ f, ((c : Thread nD τ).loc cc0_scratch1) ↦[Finset.univ \ Finset.univ.biUnion fun j : Fin 7 => (slotM j).view.set]{fullShare} f)
/-- The landing buffer, cut: every slot holds something. -/
theorem cut_comm : iprop(∃ f, ((c : Thread nD τ).loc cc0_scratch1) ↦{fullShare} f)
    ⊢ (iprop((bigSep Finset.univ fun j => offered c j) ∗ commRest c) : sProp 𝕄) := by
  have hm (f : Buf (Elt F) ((c : Thread nD τ).loc cc0_scratch1)) :
      (bigSep Finset.univ fun j : Fin 7 => (((c : Thread nD τ).loc cc0_scratch1) ↦[(slotM j).view.set]{fullShare} f : sProp 𝕄))
        ⊢ bigSep Finset.univ fun j => offered c j :=
    bigSep_mono fun j _ =>
      show ((((c : Thread nD τ).loc cc0_scratch1) ↦[(slotM j).view.set]{fullShare} f : sProp 𝕄)) ⊢ offered c j from by
        unfold offered slotPts
        iintro H
        iexists f
        iexact H
  iintro ⟨%f, H⟩
  ihave H := (cut ((c : Thread nD τ).loc cc0_scratch1) f (fun j : Fin 7 => (slotM j).view.set) fun _ _ h => slot_disjoint h).1 $$ H
  icases H with ⟨H, Hr⟩
  isplitl [H]
  · iapply (hm f); iexact H
  · unfold commRest; iexists f; iexact Hr
/-- The slots and the rest are the landing buffer. -/
theorem paste_comm : iprop((bigSep Finset.univ fun j => offered c j) ∗ commRest c)
    ⊢ (iprop(∃ f, ((c : Thread nD τ).loc cc0_scratch1) ↦{fullShare} f) : sProp 𝕄) := by
  unfold commRest
  iintro ⟨H, %f, Hr⟩
  iapply (paste ((c : Thread nD τ).loc cc0_scratch1) f (fun j : Fin 7 => (slotM j).view.set) fun _ _ h => slot_disjoint h)
  isplitl [H]; · iexact H
  iexact Hr

/-- The part of the buffer of blocks of `w` that is in no slot. -/
def wbufRest : sProp 𝕄 :=
  iprop(∃ f, ((c : Thread nD τ).loc cc0_scratch2) ↦[Finset.univ \ Finset.univ.biUnion fun d : Fin 8 => (wslotM d).view.set]{fullShare} f)
/-- The buffer of blocks of `w`, cut. -/
theorem cut_wbuf : iprop(∃ f, ((c : Thread nD τ).loc cc0_scratch2) ↦{fullShare} f)
    ⊢ (iprop((bigSep Finset.univ fun d => iprop(∃ f, wslotPts c d f)) ∗ wbufRest c) : sProp 𝕄) := by
  have hm (f : Buf (Elt F) ((c : Thread nD τ).loc cc0_scratch2)) :
      (bigSep Finset.univ fun d : Fin 8 => (((c : Thread nD τ).loc cc0_scratch2) ↦[(wslotM d).view.set]{fullShare} f : sProp 𝕄))
        ⊢ bigSep Finset.univ fun d => iprop(∃ f, wslotPts c d f) :=
    bigSep_mono fun d _ =>
      show ((((c : Thread nD τ).loc cc0_scratch2) ↦[(wslotM d).view.set]{fullShare} f : sProp 𝕄)) ⊢ iprop(∃ f, wslotPts c d f) from by
        unfold wslotPts
        iintro H
        iexists f
        iexact H
  iintro ⟨%f, H⟩
  ihave H := (cut ((c : Thread nD τ).loc cc0_scratch2) f (fun d : Fin 8 => (wslotM d).view.set) fun _ _ h => wslot_disjoint h).1 $$ H
  icases H with ⟨H, Hr⟩
  isplitl [H]
  · iapply (hm f); iexact H
  · unfold wbufRest; iexists f; iexact Hr
/-- The slots and the rest are the buffer of blocks of `w`. -/
theorem paste_wbuf : iprop((bigSep Finset.univ fun d => iprop(∃ f, wslotPts c d f)) ∗ wbufRest c)
    ⊢ (iprop(∃ f, ((c : Thread nD τ).loc cc0_scratch2) ↦{fullShare} f) : sProp 𝕄) := by
  unfold wbufRest
  iintro ⟨H, %f, Hr⟩
  iapply (paste ((c : Thread nD τ).loc cc0_scratch2) f (fun d : Fin 8 => (wslotM d).view.set) fun _ _ h => wslot_disjoint h)
  isplitl [H]; · iexact H
  iexact Hr

/-- The device's own row block can be read from the part that is not sent. -/
theorem own_subset : (x8M.access (ownR c)).set
    ⊆ Finset.univ \ Finset.univ.biUnion fun j : Fin 7 => (srcM c j).view.set := fun i hi => by
  rw [Finset.mem_sdiff, Finset.mem_biUnion]
  refine ⟨Finset.mem_univ _, ?_⟩
  rintro ⟨j, -, hj⟩
  exact Finset.disjoint_left.mp (own_disjoint c j) hi hj

/-- Every cell of a device, its round over, closes with its counter at zero. -/
theorem close_all : iprop(records X Wt K ∗ bigSep Finset.univ fun k : CI => atPos ER (cell c k) 1 ∅ 0)
    ⊢ (|={Set.univ}=> bigSep Finset.univ fun k : CI => semVal (cell c k) 0 : sProp 𝕄) :=
  (bigSep_knowing fun k _ => by
    iintro ⟨#HR, Hat⟩
    ihave Hr := (records_at X Wt K c k) $$ HR
    icases Hr with ⟨#HI, -⟩
    iapply (Rounds.cell_close ER (Rd X Wt) (Set.mem_univ (K (c, k))) (fun h => h) (R := 0 + 1) (duties_later X Wt (cell c k)))
    isplitr; · iexact HI
    iexact Hat).trans (bigSep_fupd _ _)

/-! ## The run -/

theorem read_x (f : (cc0_stg0_0 : Ref sig .tc).ty.Contents (Elt F)) :
    (xM : Memref sig .tc .vmem S4096x512 .f32).view.readAt (Elt F) xR.toLoadRect f = f :=
  Memref.readAt_unit_zero (Elt F) cc0_stg0_0 hz2 _ f
theorem write_x8 (f w : (cc0_scratch0 : Ref sig .tc).ty.Contents (Elt F)) :
    ((x8M : Memref sig .tc .vmem S4096x512 .fp8e4m3).access xR : View sig .tc _ _ _).write (Elt F) f w Finset.univ = w :=
  Memref.write_access_unit_zero_univ (Elt F) cc0_scratch0 hz2 _ f w

/-- The first scale, as read. -/
def sxAt (SX : (cc0_stg1_0 : Ref sig .tc).ty.Contents (Elt F)) : F .f32 :=
  (sxM.access sR).read (Elt F) SX (Shape.Idx.first (numel1_S1.symm ▸ Nat.one_pos))
/-- The second scale, as read. -/
def swAt (SW : (cc0_stg2_0 : Ref sig .tc).ty.Contents (Elt F)) : F .f32 :=
  (swM.access sR).read (Elt F) SW (Shape.Idx.first (numel1_S1.symm ▸ Nat.one_pos))

/-- The result block before scaling: the device's own product and the seven others added to it. -/
def acc : FVec F S512x2048 .f32 := accL X Wt c all7 (mm (own X c) (wblk Wt c 0))
/-- The result block. -/
def out (SX : (cc0_stg1_0 : Ref sig .tc).ty.Contents (Elt F)) (SW : (cc0_stg2_0 : Ref sig .tc).ty.Contents (Elt F)) :
    FVec F S512x2048 .f32 := k0_pay13 (k0_pay12 (acc X Wt c)) (sxAt SX) (swAt SW)

/-- The buffers a device works in, and its `w`. -/
def room : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (((c : Thread nD τ).loc main_arg1) ↦{fullShare} Wt c))

/-- The staged inputs. -/
def staged (SX : (cc0_stg1_0 : Ref sig .tc).ty.Contents (Elt F)) (SW : (cc0_stg2_0 : Ref sig .tc).ty.Contents (Elt F)) : sProp 𝕄 :=
  iprop((((c : Thread nD τ).loc cc0_stg0_0) ↦{fullShare} X c) ∗ (((c : Thread nD τ).loc cc0_stg1_0) ↦{fullShare} SX)
    ∗ (((c : Thread nD τ).loc cc0_stg2_0) ↦{fullShare} SW))

theorem univ7 : (all7.toFinset : Finset (Fin 7)) = Finset.univ := by decide
theorem univ8 : (all8.toFinset : Finset (Fin 8)) = Finset.univ := by decide

set_option maxHeartbeats 4000000 in
/-- The program of device `c`, from everything it starts with to its result block; every buffer and every counter comes
back. -/
theorem run_prog (Q : PUnit.{1} → sProp 𝕄) (SX : (cc0_stg1_0 : Ref sig .tc).ty.Contents (Elt F))
    (SW : (cc0_stg2_0 : Ref sig .tc).ty.Contents (Elt F)) (a₀ : (cc0_stg3_0 : Ref sig .tc).ty.Contents (Elt F)) (W : Waits sig Unit) :
    iprop((records X Wt K ∗ standing c ∗ rights c)
        ∗ (cred (tallyAt (cell c barI) () 7) ∗ (bigSep Finset.univ fun j : Fin 7 => cred (tallyAt (cell c (recvI j)) () Nx)) ∗ levAts L lv)
        ∗ room Wt c ∗ owes (c : Thread nD τ) (O₀ c) W ∗ staged X c SX SW ∗ oPts c a₀)
      ⊢ iprop(((room Wt c ∗ (bigSep Finset.univ fun k : CI => semVal (cell c k) 0) ∗ (∃ W, owes (c : Thread nD τ) 0 W)
            ∗ staged X c SX SW ∗ oPts c (out X Wt c SX SW)) -∗ Q ⟨⟩)
          -∗ Runs c (prog c) Q) := by
  unfold standing rights room staged O₀
  rw [bigSepCI]
  iintro ⟨⟨#HR, ⟨HaB, HaS, HaV, HaW0, HaW⟩, HtB, HtV, HtS, HtW⟩, ⟨HcB, HcV, #Hlev⟩, ⟨⟨%f, Hx8⟩, Hcomm, Hwbuf, Hw⟩, HO, ⟨Hx, Hsx, Hsw⟩, Ho⟩ Hk
  ihave Hw := (cut_w Wt c).1 $$ Hw
  icases Hw with ⟨Hw, HwR⟩
  ihave Hwbuf := (cut_wbuf (F := F) c) $$ Hwbuf
  icases Hwbuf with ⟨Hwbuf, HwbufR⟩
  ihave Hcomm := (cut_comm (F := F) c) $$ Hcomm
  icases Hcomm with ⟨Hcomm, HcommR⟩
  unfold prog
  -- the copies of `w`
  iapply (run_startW X Wt K c _ Q all8 (by decide)) $$ [Hw Hwbuf HtW]
  · isplitr; · iexact HR
    rw [univ8]
    simp only [bigSep_sep']
    isplitl [Hw]; · iexact Hw
    isplitl [Hwbuf]; · iexact Hwbuf
    iexact HtW
  rw [univ8, bigSep8]
  iintro ⟨HcW0, HcW⟩
  -- `x` narrowed
  iapply (wp_load 𝒱₀ (c : Thread nD τ) none Set.univ (m := xM) (Finset.subset_univ _)) $$ Hx; iintro Hx
  rw [read_x]
  iapply (wp_load 𝒱₀ (c : Thread nD τ) none Set.univ (m := x8M) (Finset.subset_univ _)) $$ Hx8; iintro Hx8
  iapply (wp_store 𝒱₀ (c : Thread nD τ) none Set.univ (m := x8M) (r := xR) (Mk := Finset.univ) (Finset.subset_univ _)) $$ Hx8; iintro Hx8
  rw [write_x8]
  ihave Hx8 := (show ((x8M.access xR).loc (c : Thread nD τ) ↦{fullShare} k0_pay1 (X c) : sProp 𝕄) ⊢ _ from (cut_x8 X c).1) $$ Hx8
  icases Hx8 with ⟨Hsrc, Hx8R⟩
  -- the barrier
  ihave Hcomm := (Entails.of_eq (BI.bigSep_univ_equiv Fin.revPerm (fun j : Fin 7 => (offered c j : sProp 𝕄)))) $$ Hcomm
  iapply (run_signalAll X Wt K c _ Q (owedX c Finset.univ) W all7 (by decide)) $$ [HO Hcomm HtB]
  · isplitr; · iexact HR
    rw [univ7]
    isplitl [HO]; · iexact HO
    simp only [bigSep_sep']
    isplitl [Hcomm]; · iexact Hcomm
    iexact HtB
  iintro HO
  ihave Hr := (records_at X Wt K c barI) $$ HR
  icases Hr with ⟨#HI, -⟩
  iapply (Rounds.wp_wait_rest_token 𝒱₀ ER (Rd X Wt) (c : Thread nD τ) none (κ := K (c, barI))
      (wpE_semWait_eq 𝒱₀ (c : Thread nD τ) none Set.univ) (Set.mem_univ _) () (O := owedX c Finset.univ) (W := W) (R := 0) (m := 0) (T := ∅)
      (by rw [show ((c : Thread nD τ), SemLoc.reg barQ) = cell c barI from rfl, expect_bar]; decide)) $$ [HcB HO HaB]
  · isplitr; · iexact HI
    isplitl [HcB]; · iexact HcB
    isplitl [HO]; · iexact HO
    isplitr; · iapply (mayWait_bar (F := F) c Finset.univ); iexact Hlev
    iexact HaB
  iintro ⟨HO, HaB, -, Hoff⟩
  ihave Hoff := (Entails.of_eq (rest_bar X Wt c)) $$ Hoff
  -- the sends
  iapply (run_sendAll X Wt K c _ Q _ all7 (by decide)) $$ [HO Hsrc Hoff HtS HtV]
  · isplitr; · iexact HR
    rw [univ7]
    isplitl [HO]; · iexact HO
    simp only [bigSep_sep']
    isplitl [Hsrc]; · iexact Hsrc
    isplitl [Hoff]; · iexact Hoff
    isplitl [HtS]; · iexact HtS
    iexact HtV
  rw [univ7]
  iintro ⟨HcS, HO⟩
  -- the device's own product
  unfold x8Rest
  iapply (wp_load_rect 𝒱₀ (c : Thread nD τ) none Set.univ (m := x8M) (r := ownR c) (f := x8 X c) (own_subset c)) $$ Hx8R
  iintro Hx8R
  iapply (run_wait X Wt K c Q (.inr (.inr 0)) (w := .waitDma2 (wQ 0) (wsrcM c 0) (wslotM 0) (exact_wsrc c 0) (exact_wslot 0))
      (fun R => wpE_waitDma2_eq 𝒱₀ (c : Thread nD τ) none Set.univ R) _ _) $$ [HcW0 HO HaW0]
  · isplitr; · iexact HR
    isplitl [HcW0]; · iexact HcW0
    isplitl [HO]; · iexact HO
    iexact HaW0
  iintro ⟨HO, HaW0, Hp⟩
  ihave Hp := (show payOf X Wt c 0 (wI 0) ⊢ fetched Wt c 0 from BI.Entails.refl _) $$ Hp
  unfold fetched wslotPts
  icases Hp with ⟨⟨%g, %hg, Hw0⟩, Hs0⟩
  iapply (wp_load_rect 𝒱₀ (c : Thread nD τ) none Set.univ (m := wbufM) (r := wbufR 0) (f := g) (S := (wslotM 0).view.set)
    (subset_of_eq (wslot_set 0).symm)) $$ Hw0
  iintro Hw0
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o, pay2_eq, hg]
  -- the other devices' products
  iapply (run_addAll X Wt K c _ Q all7 _ (by decide)) $$ [HO Ho HcV HaV HcW HaW]
  · isplitr; · iexact HR
    isplitl [HO]; · iexists _; iexact HO
    isplitl [Ho]; · iexact Ho
    rw [univ7]
    simp only [bigSep_sep']
    isplitl [HcV HaV]
    · isplitl [HcV]; · iexact HcV
      iexact HaV
    isplitl [HcW]; · iexact HcW
    iexact HaW
  rw [univ7]
  simp only [bigSep_sep']
  iintro ⟨⟨%W', HO⟩, Ho, ⟨Hcomm, HaV⟩, Hsp, HaW⟩
  -- the scaling
  iapply (wp_load 𝒱₀ (c : Thread nD τ) none Set.univ (m := oM) (Finset.subset_univ _)) $$ Ho; iintro Ho
  iapply (wp_smemLoadElt 𝒱₀ (c : Thread nD τ) none Set.univ (m := sxM) (r := sR) (Finset.subset_univ _)) $$ Hsx; iintro Hsx
  iapply (wp_smemLoadElt 𝒱₀ (c : Thread nD τ) none Set.univ (m := swM) (r := sR) (Finset.subset_univ _)) $$ Hsw; iintro Hsw
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o, read_o]
  -- the sends have left
  iapply (run_waitSends X Wt K c _ Q all7 (by decide)) $$ [HO HcS HaS]
  · isplitr; · iexact HR
    isplitl [HO]; · iexists _; iexact HO
    rw [univ7]
    simp only [bigSep_sep']
    isplitl [HcS]; · iexact HcS
    iexact HaS
  rw [univ7]
  simp only [bigSep_sep']
  iintro ⟨HO, Hsrc, HaS⟩
  -- everything back
  imod (close_all X Wt K c) $$ [HaB HaS HaV HaW0 HaW] with Hz
  · isplitr; · iexact HR
    rw [bigSepCI]
    isplitl [HaB]; · iexact HaB
    isplitl [HaS]; · iexact HaS
    isplitl [HaV]; · iexact HaV
    isplitl [HaW0]; · iexact HaW0
    iexact HaW
  ihave Hx8 := (show iprop((bigSep Finset.univ fun j => srcPts X c j) ∗ x8Rest X c) ⊢ _ from (cut_x8 X c).2) $$ [Hsrc Hx8R]
  · isplitl [Hsrc]; · iexact Hsrc
    unfold x8Rest; iexact Hx8R
  ihave Hcomm := (paste_comm (F := F) c) $$ [Hcomm HcommR]
  · isplitl [Hcomm]; · iexact Hcomm
    iexact HcommR
  unfold spent
  simp only [bigSep_sep']
  icases Hsp with ⟨Hwbuf, Hw⟩
  ihave Hwbuf := (paste_wbuf (F := F) c) $$ [Hwbuf Hw0 HwbufR]
  · isplitr [HwbufR]
    · rw [bigSep8]
      isplitl [Hw0]
      · unfold wslotPts; iexists g; iexact Hw0
      iexact Hwbuf
    iexact HwbufR
  ihave Hw := (cut_w Wt c).2 $$ [Hw Hs0 HwR]
  · isplitr [HwR]
    · rw [bigSep8]
      isplitl [Hs0]; · iexact Hs0
      iexact Hw
    iexact HwR
  rw [wp_ret]; imodintro
  iapply Hk
  isplitl [Hx8 Hcomm Hwbuf Hw]
  · isplitl [Hx8]; · iexists _; iexact Hx8
    isplitl [Hcomm]; · iexact Hcomm
    isplitl [Hwbuf]; · iexact Hwbuf
    iexact Hw
  isplitl [Hz]; · iexact Hz
  isplitl [HO]; · iexact HO
  isplitl [Hx Hsx Hsw]
  · isplitl [Hx]; · iexact Hx
    isplitl [Hsx]; · iexact Hsx
    iexact Hsw
  iexact Ho

end Cert.KernelIdeal.Exchange

end
-- ==== Proof.KernelIdeal.Launch.lean ====
/-
# The run of the eight devices

The pipeline around the program of one device, and the launch: the rights to the shared semaphores are dealt around the
ring, what the devices owe one another is credited to those it is owed to, and the run of all eight ends with the
results, the arguments unchanged and every counter at zero.
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices start from -/

/-- Device `c`'s columns of `x`, staged. -/
def xIn (c : Dev nD) : (cc0_stg0_0 : Ref sig .tc).ty.Contents (Elt F) :=
  (win0_0.blk (0 : Fin 1)).view.read (Elt F) (m ((c : Thread nD τ).loc main_arg0))
/-- The first scale, staged. -/
def sxIn (c : Dev nD) : (cc0_stg1_0 : Ref sig .tc).ty.Contents (Elt F) :=
  (win0_1.blk (0 : Fin 1)).view.read (Elt F) (m ((c : Thread nD τ).loc main_arg2))
/-- The second scale, staged. -/
def swIn (c : Dev nD) : (cc0_stg2_0 : Ref sig .tc).ty.Contents (Elt F) :=
  (win0_2.blk (0 : Fin 1)).view.read (Elt F) (m ((c : Thread nD τ).loc main_arg3))
/-- Device `c`'s copy of `w`. -/
def wIn (c : Dev nD) : (main_arg1 : Ref sig .tc).ty.Contents (Elt F) := m ((c : Thread nD τ).loc main_arg1)
/-- Device `c`'s rows of the result. -/
def outAt (c : Dev nD) : (cc0_stg3_0 : Ref sig .tc).ty.Contents (Elt F) := out (xIn m) (wIn m) c (sxIn m c) (swIn m c)

/-- The buffers the devices work in, holding anything. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- A device's `w`, as at launch. -/
def wHeld (c : Dev nD) : sProp 𝕄 := ((c : Thread nD τ).loc main_arg1) ↦{fullShare} wIn m c

/-- Before the program: what the launch hands over, and `w`. -/
def entry (c : Dev nD) : sProp 𝕄 := iprop(start (xIn m) (wIn m) c ∗ wHeld m c)
/-- Before the program, with its buffers. -/
def Φ₀ (c : Dev nD) : sProp 𝕄 := iprop(entry m c ∗ scratch c)
/-- After the program: its buffers, `w`, and every counter at zero. -/
def Φ₁ (c : Dev nD) : sProp 𝕄 := iprop((scratch c ∗ wHeld m c) ∗ bigSep Finset.univ fun k : CI => semVal (cell c k) 0)

/-- What the pipeline around the program keeps: its arrays, what the program leaves in the staging buffers, what it
holds and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => sxIn m c
    | ⟨2, _⟩ => swIn m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The program within the pipeline -/

/-- Owning a whole buffer is holding it at full share. -/
theorem owns_whole_eq (c : Dev nD) (b : Ref sig .tc) (A : b.ty.Contents (Elt F)) :
    (owns (Ix := Unit) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

/-- A staging buffer holding given contents. -/
abbrev stg (c : Dev nD) (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

/-- Everything the program starts from. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- Everything the program leaves. -/
def bodyPost (c : Dev nD) : sProp 𝕄 :=
  iprop(Φ₁ m c ∗ (dats m ρ 0 c).owesAt () t0_0.succ ∗ stg c cc0_stg0_0 (xIn m c) ∗ stg c cc0_stg1_0 (sxIn m c)
    ∗ stg c cc0_stg2_0 (swIn m c) ∗ stg c cc0_stg3_0 (outAt m c))

/-- The program takes what it starts from to what it leaves. -/
theorem sound_body (c : Dev nD) : bodyPre m ρ c ⊢ Runs c (body F) (fun _ => bodyPost m ρ c) := by
  rw [body_eq]
  unfold Runs
  rw [wp_deviceId]
  unfold bodyPre Φ₀ entry start scratch wHeld
  iintro ⟨⟨⟨⟨⟨%K, Hg⟩, Hrest⟩, Hw⟩, H0, H1, H2⟩, Ho, ⟨%d0, %g0, %hg0, Hx⟩, ⟨%d1, %g1, %hg1, Hsx⟩, ⟨%d2, %g2, %hg2, Hsw⟩, ⟨%d3, %g3, %hg3, Hout⟩⟩
  have hx : g0 = xIn m c := by rw [hg0]; unfold Dat.before; rw [if_pos (fetch0_0 t0_0)]; rfl
  have hsx : g1 = sxIn m c := by rw [hg1]; unfold Dat.before; rw [if_pos (fetch0_1 t0_0)]; rfl
  have hsw : g2 = swIn m c := by rw [hg2]; unfold Dat.before; rw [if_pos (fetch0_2 t0_0)]; rfl
  subst hx hsx hsw
  unfold Dat.owesAt Pipeline.owesWithin
  icases Ho with ⟨%W, %hW, HO⟩
  rw [show (dats m ρ 0 c).owed t0_0.castSucc = O₀ c from rfl]
  iapply (run_prog (xIn m) (wIn m) K c (fun _ => bodyPost m ρ c) (sxIn m c) (swIn m c) g3 W) $$ [Hg Hrest Hw H0 H1 H2 HO Hx Hsx Hsw Hout]
  · isplitl [Hg]; · iexact Hg
    isplitl [Hrest]; · iexact Hrest
    isplitl [Hw H0 H1 H2]
    · unfold room
      isplitl [H0]; · iexact H0
      isplitl [H1]; · iexact H1
      isplitl [H2]; · iexact H2
      iexact Hw
    isplitl [HO]; · iexact HO
    isplitl [Hx Hsx Hsw]
    · unfold staged
      isplitl [Hx]; · iexact Hx
      isplitl [Hsx]; · iexact Hsx
      iexact Hsw
    iexact Hout
  unfold room staged
  iintro ⟨⟨H0, H1, H2, Hw⟩, Hz, ⟨%W', HO⟩, ⟨Hx, Hsx, Hsw⟩, Hout⟩
  unfold bodyPost Φ₁ scratch wHeld Dat.owesAt Pipeline.owesWithin
  rw [show (dats m ρ 0 c).owed t0_0.succ = 0 from rfl]
  isplitl [H0 H1 H2 Hw Hz]
  · isplitr [Hz]
    · isplitr [Hw]
      · isplitl [H0]; · iexact H0
        isplitl [H1]; · iexact H1
        iexact H2
      iexact Hw
    iexact Hz
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 4000 in
/-- The same, as the pipeline asks for it. -/
theorem body_obligation (c : Dev nD) : BodyObligation (dats (F := F) m ρ 0 c) (defs₀ (F := F)) 𝒱₀ () Set.univ := fun t => by
  rw [fin_N0 t]
  rw [show (Finset.univ : Finset (Fin cfg0.W)) = (Finset.univ : Finset (Fin 4)) from rfl]
  rw [bigSep_W0, bigSep_W0]
  simp only [owns_whole_eq]
  exact sound_body m ρ c

/-! ## The launch -/

/-- The devices' own semaphores are the kernel's, each once, and no staging semaphore. -/
theorem ownSemFacts : Pipeline.OwnSemFacts cfg0.spec osem := by decide +kernel

/-- Every window's array is held at full share. -/
theorem share_eq (c : Dev nD) (w : Fin cfg0.W) : (dats m ρ 0 c).share w = fullShare := by unfold Dat.share; split <;> rfl

/-- Cells are told apart by device and index. -/
theorem cell_inj {a b : Dev nD} {k l : CI} (h : cell a k = cell b l) : a = b ∧ k = l :=
  ⟨congrArg (fun g : GSem nD τ sig => g.1.1) h, csem_inj (congrArg Prod.snd h)⟩

/-- All cells. -/
def cells : Finset (GSem nD τ sig) :=
  Finset.univ.map ⟨fun ck : Dev nD × CI => cell ck.1 ck.2, fun _ _ h => Prod.ext (cell_inj h).1 (cell_inj h).2⟩

/-- The rights minted for a device's own cells: one for each of the seven units of its barrier, one for any other cell. -/
abbrev tokOf : Dev nD × (Fin 7 ⊕ (Fin 7 ⊕ Fin 7 ⊕ Fin 8)) → GSem nD τ sig × ℕ × Fin 7
  | (c, .inl e) => (cell c barI, 0, e)
  | (c, .inr i) => (cell c (.inr i), 0, 0)
/-- No right is minted twice. -/
theorem tokOf_inj : Function.Injective tokOf := by
  rintro ⟨c, i | i⟩ ⟨c', i' | i'⟩ h
  · rw [(cell_inj (congrArg Prod.fst h)).1, show i = i' from congrArg (fun x : GSem nD τ sig × ℕ × Fin 7 => x.2.2) h]
  · exact absurd (cell_inj (congrArg Prod.fst h)).2 Sum.inl_ne_inr
  · exact absurd (cell_inj (congrArg Prod.fst h)).2 Sum.inr_ne_inl
  · rw [(cell_inj (congrArg Prod.fst h)).1, Sum.inr.inj (cell_inj (congrArg Prod.fst h)).2]
/-- All rights. -/
def tokens : Finset (GSem nD τ sig × ℕ × Fin 7) := Finset.univ.map ⟨tokOf, tokOf_inj⟩

/-- The ghost state at launch. -/
def u₀ : UU := (initOf (Pipeline.cells cfgs cellOf_inj) (Pipeline.launchToks cfgs cellOf_inj), initOf cells tokens)

/-- The rights to device `c`'s own cells. -/
def toks (c : Dev nD) : sProp 𝕄 :=
  iprop((bigSep Finset.univ fun e : Fin 7 => dutyTok ER (cell c barI) 0 e)
    ∗ bigSep Finset.univ fun i : Fin 7 ⊕ Fin 7 ⊕ Fin 8 => dutyTok ER (cell c (.inr i)) 0 0)

/-- What the launch deals device `c`: the state of its cells, its standing at them, that their first round has begun,
and the rights to them. -/
def G (c : Dev nD) : sProp 𝕄 :=
  iprop((bigSep Finset.univ fun k : CI => roundState ER (Rd (xIn m) (wIn m)) (cell c k) 0)
    ∗ (bigSep Finset.univ fun k : CI => iprop(atPos ER (cell c k) 0 ∅ 0 ∗ reached ER (cell c k) 0)) ∗ toks c)

/-- What it becomes: the records, its standing, and the rights it pays with. -/
def G' (c : Dev nD) : sProp 𝕄 := iprop(∃ K, records (xIn m) (wIn m) K ∗ standing c ∗ rights c)

/-- The ghost state at launch is what is dealt. -/
theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : CI => Φ (cell c k) := by
    unfold cells; rw [BI.bigSep_map, BI.bigSep_univ_prod]; rfl
  have hT : bigSep tokens (fun x => (dutyTok ER x.1 x.2.1 x.2.2 : sProp 𝕄)) = bigSep Finset.univ fun c : Dev nD => toks c := by
    unfold tokens; rw [BI.bigSep_map, BI.bigSep_univ_prod]
    exact bigSep_congr fun c _ => by unfold toks; rw [BI.bigSep_univ_sum]; rfl
  iintro HX
  imod (Rounds.fund ER (Rd (xIn m) (wIn m)) cells tokens) $$ HX with ⟨Hst, Hr, Hat, Htok⟩
  imodintro
  ihave Hst' := (Entails.of_eq (hX fun g => roundState ER (Rd (xIn m) (wIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The one counter that outlives the program is the barrier. -/
theorem unscopedSems0_eq (c : Dev nD) : (unscopedSems0 c : sProp 𝕄) = semVal (cell c barI) 0 := by
  unfold unscopedSems0; rw [bigSep_eq_bigSepL_of_eq [SemLoc.reg barQ] (by decide) (by decide)]; rfl

/-- A device's counters are the barrier's and its own semaphores'. -/
theorem sems0_eq (c : Dev nD) :
    (bigSep Finset.univ fun k : CI => semVal (cell c k) 0 : sProp 𝕄)
      = iprop(unscopedSems0 c ∗ Pipeline.ownSems0 (Ix := Unit) (Name := ℕ) (U := UU) (Lvl := ℕ) (Val := Elt F) (τ := τ) osem c) := by
  rw [unscopedSems0_eq, BI.bigSep_univ_sum, show (Finset.univ : Finset Unit) = {()} from rfl, bigSep_singleton]
  rfl

/-- A device's cells, set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xIn m) (wIn m)) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (cell c k) 0) ∗ bigSep Finset.univ fun k : CI => roundState ER (Rd (xIn m) (wIn m)) (cell c k) 0)
      ⊢ (|={Set.univ}=> bigSep Finset.univ fun k => iprop(∃ κ : ℕ, cellInv ER (Rd (xIn m) (wIn m)) κ (cell c k)) : sProp 𝕄) from by
        rw [← bigSep_sep']
        exact (bigSep_mono fun k _ => (Rounds.body_intro ER (Rd (xIn m) (wIn m)) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The rights dealt around the ring: each goes to the device that pays with it. -/
theorem toks_around : (bigSep Finset.univ fun c : Dev nD => (toks c : sProp 𝕄)) ⊢ bigSep Finset.univ fun c : Dev nD => rights c := by
  have hB : (bigSep Finset.univ fun c : Dev nD => bigSep Finset.univ fun e : Fin 7 => (dutyTok ER (cell c barI) 0 e : sProp 𝕄))
      = bigSep Finset.univ fun c : Dev nD => bigSep Finset.univ fun j : Fin 7 => dutyTok ER (cell (fwd c j) barI) 0 j.rev := by
    rw [BI.bigSep_univ_comm, BI.bigSep_univ_equiv Fin.revPerm, BI.bigSep_univ_comm (fun (c : Dev nD) (j : Fin 7) => (dutyTok ER (cell (fwd c j) barI) 0 j.rev : sProp 𝕄))]
    exact bigSep_congr fun j _ => BI.bigSep_univ_equiv (fwdEquiv j) fun c : Dev nD => (dutyTok ER (cell c barI) 0 j.rev : sProp 𝕄)
  have hV : (bigSep Finset.univ fun c : Dev nD => bigSep Finset.univ fun j : Fin 7 => (dutyTok ER (cell c (recvI j)) 0 0 : sProp 𝕄))
      = bigSep Finset.univ fun c : Dev nD => bigSep Finset.univ fun j : Fin 7 => dutyTok ER (cell (fwd c j) (recvI j)) 0 0 := by
    rw [BI.bigSep_univ_comm, BI.bigSep_univ_comm (fun (c : Dev nD) (j : Fin 7) => (dutyTok ER (cell (fwd c j) (recvI j)) 0 0 : sProp 𝕄))]
    exact bigSep_congr fun j _ => BI.bigSep_univ_equiv (fwdEquiv j) fun c : Dev nD => (dutyTok ER (cell c (recvI j)) 0 0 : sProp 𝕄)
  have hT : (bigSep Finset.univ fun c : Dev nD => (toks c : sProp 𝕄)) = iprop((bigSep Finset.univ fun c : Dev nD => bigSep Finset.univ fun e : Fin 7 => dutyTok ER (cell c barI) 0 e)
      ∗ (bigSep Finset.univ fun c : Dev nD => bigSep Finset.univ fun j : Fin 7 => dutyTok ER (cell c (sendI j)) 0 0)
      ∗ (bigSep Finset.univ fun c : Dev nD => bigSep Finset.univ fun j : Fin 7 => dutyTok ER (cell c (recvI j)) 0 0)
      ∗ (bigSep Finset.univ fun c : Dev nD => bigSep Finset.univ fun d : Fin 8 => dutyTok ER (cell c (wI d)) 0 0)) := by
    simp only [← bigSep_sep']
    exact bigSep_congr fun c _ => by unfold toks; rw [BI.bigSep_univ_sum, BI.bigSep_univ_sum]; rfl
  have hR : (bigSep Finset.univ fun c : Dev nD => (rights c : sProp 𝕄)) = iprop((bigSep Finset.univ fun c : Dev nD => bigSep Finset.univ fun j : Fin 7 => dutyTok ER (cell (fwd c j) barI) 0 j.rev)
      ∗ (bigSep Finset.univ fun c : Dev nD => bigSep Finset.univ fun j : Fin 7 => dutyTok ER (cell (fwd c j) (recvI j)) 0 0)
      ∗ (bigSep Finset.univ fun c : Dev nD => bigSep Finset.univ fun j : Fin 7 => dutyTok ER (cell c (sendI j)) 0 0)
      ∗ (bigSep Finset.univ fun c : Dev nD => bigSep Finset.univ fun d : Fin 8 => dutyTok ER (cell c (wI d)) 0 0)) := by
    simp only [← bigSep_sep']
    exact bigSep_congr fun c _ => by unfold rights; rfl
  rw [hT, hR, hB, hV]
  iintro ⟨H1, H2, H3, H4⟩
  isplitl [H1]; · iexact H1
  isplitl [H3]; · iexact H3
  isplitl [H2]; · iexact H2
  iexact H4

/-- What every device has set up becomes what every device starts from. -/
theorem regroup :
    (bigSep Finset.univ fun c : Dev nD => iprop((bigSep Finset.univ fun k => iprop(∃ κ : ℕ, cellInv ER (Rd (xIn m) (wIn m)) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← BI.bigSep_univ_prod (fun ck : Dev nD × CI => iprop(∃ κ : ℕ, cellInv ER (Rd (xIn m) (wIn m)) κ (cell ck.1 ck.2))),
    bigSep_congr (s := Finset.univ) (fun (c : Dev nD) _ => bigSep_sep' Finset.univ (fun k : CI => (atPos ER (cell c k) 0 ∅ 0 : sProp 𝕄)) (fun k => reached ER (cell c k) 0)),
    bigSep_sep', ← BI.bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (Rd (xIn m) (wIn m)) κ (cell ck.1 ck.2) : sProp 𝕄))) $$ HI
  icases HK with ⟨%K, #HI⟩
  have hG (c : Dev nD) : iprop(records (xIn m) (wIn m) K ∗ standing c ∗ rights c) ⊢ G' m c := by
    unfold G'
    iintro H
    iexists K
    iexact H
  iapply (bigSep_knowing (R := records (xIn m) (wIn m) K) (Φ := fun c => iprop(standing c ∗ rights c)) fun c _ => hG c)
  isplitr
  · unfold records; isplitl; · iexact HI
    iexact HR
  · rw [bigSep_sep']
    unfold standing
    isplitl [Hat]; · iexact Hat
    iapply toks_around $$ Htok

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

/-- Unequal indices are at unequal cells. -/
theorem cell_ne {a b : Dev nD} {k l : CI} (h : k ≠ l) : cell a k ≠ cell b l := fun e => h (cell_inj e).2

/-- What device `d` owes a barrier. -/
theorem owed_bar (d c : Dev nD) : O₀ d (cell c barI) () = ∑ j : Fin 7, if d = fwd c j.rev then 1 else 0 := by
  unfold O₀ owedX owedB
  rw [Pi.add_apply, Finsupp.add_apply, Finset.sum_apply, Finsupp.finsetSum_apply, Finset.sum_apply, Finsupp.finsetSum_apply,
    Finset.sum_eq_zero fun j _ => ?_, Nat.zero_add]
  · refine Finset.sum_congr rfl fun j _ => ?_
    rw [tallyAt_apply]
    refine if_congr ⟨fun h => ?_, fun h => ⟨?_, rfl⟩⟩ rfl rfl
    · rw [(cell_inj h.1).1, fwd_fwd_rev]
    · rw [h, fwd_rev_fwd]
  · rw [tallyAt_apply]
    exact if_neg fun h => Sum.inl_ne_inr (cell_inj h.1).2
/-- What device `d` owes a landing. -/
theorem owed_recv (d c : Dev nD) (i : Fin 7) : O₀ d (cell c (recvI i)) () = if d = fwd c i.rev then Nx else 0 := by
  unfold O₀ owedX owedB
  rw [Pi.add_apply, Finsupp.add_apply, Finset.sum_apply, Finsupp.finsetSum_apply, Finset.sum_apply, Finsupp.finsetSum_apply,
    Finset.sum_eq_zero (s := Finset.univ) (f := fun j : Fin 7 => tallyAt (cell (fwd d j) barI) () 1 (cell c (recvI i)) ()) fun j _ => ?_, Nat.add_zero,
    Finset.sum_eq_single i (fun j _ hj => ?_) (fun h => absurd (Finset.mem_univ i) h)]
  · rw [tallyAt_apply]
    refine if_congr ⟨fun h => ?_, fun h => ⟨?_, rfl⟩⟩ rfl rfl
    · rw [(cell_inj h.1).1, fwd_fwd_rev]
    · rw [h, fwd_rev_fwd]
  · rw [tallyAt_apply]
    refine if_neg fun h => hj ?_
    exact (Sum.inl.inj (Sum.inr.inj (Sum.inr.inj (cell_inj h.1).2))).symm
  · rw [tallyAt_apply]
    exact if_neg fun h => Sum.inr_ne_inl (cell_inj h.1).2

/-- A barrier is owed seven units. -/
theorem launch_bar (c : Dev nD) :
    tallyOn (cell c barI) (launchCredit (Pipeline.owing O₀) 0 (cell c barI)) = (tallyAt (cell c barI) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (fwd c j.rev) fun _ => 1).trans (if_pos (Finset.mem_univ _))]
  rfl
/-- A landing is owed one block. -/
theorem launch_recv (c : Dev nD) (i : Fin 7) :
    tallyOn (cell c (recvI i)) (launchCredit (Pipeline.owing O₀) 0 (cell c (recvI i))) = (tallyAt (cell c (recvI i)) () Nx : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (fwd c i.rev) fun _ => Nx, if_pos (Finset.mem_univ _)]

/-- The launch credits a device with what its barrier and its landings are owed. -/
theorem creds (c : Dev nD) :
    (Pipeline.launchCred O₀ c : sProp 𝕄)
      ⊢ iprop(cred (tallyAt (cell c barI) () 7) ∗ bigSep Finset.univ fun i : Fin 7 => cred (tallyAt (cell c (recvI i)) () Nx)) := by
  unfold Pipeline.launchCred
  rw [bigSep_univ_at _ (SemLoc.reg barQ)]
  refine BIClass.sep_mono (Entails.of_eq (congrArg cred (launch_bar c))) ?_
  let e : Fin 7 ↪ SemLoc sig := ⟨fun i => csem (recvI i), fun i j h => Sum.inl.inj (Sum.inr.inj (Sum.inr.inj (csem_inj h)))⟩
  have hsub : Finset.univ.map e ⊆ Finset.univ.erase (SemLoc.reg barQ : SemLoc sig) := fun s hs => by
    obtain ⟨i, -, rfl⟩ := Finset.mem_map.mp hs
    exact Finset.mem_erase.mpr ⟨fun h => Sum.inr_ne_inl (csem_inj (show csem (recvI i) = csem barI from h)), Finset.mem_univ _⟩
  refine (BI.bigSep_subset hsub).trans ?_
  rw [BI.bigSep_map]
  exact bigSep_mono fun i _ => Entails.of_eq (congrArg (fun t => (cred t : sProp 𝕄)) (launch_recv c i))

/-! ## The run -/

/-- What the launch leaves a device is what its program starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold entry start G' wHeld
  isplitl
  · isplitr [Hw]
    · isplitl [HG]; · iexact HG
      isplitl [H1]; · iexact H1
      isplitl [HN]; · iexact HN
      iexact Hlev
    iexact Hw
  · iempintro

/-- With its buffers, it is what holds before the program. -/
theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device keeps after the program: the barrier's counter and `w`. -/
def kept (c : Dev nD) : sProp 𝕄 := iprop(unscopedSems0 c ∗ wHeld m c)

/-- What holds after the program gives back the buffers and the counters. -/
theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ kept scratch
  rw [sems0_eq]
  iintro ⟨⟨Hr, Hw⟩, HzB, Hz⟩
  isplitl [HzB Hw]
  · isplitl [HzB] <;> iassumption
  isplitl [Hz]; · iexact Hz
  iexact Hr

/-- The waits of the staging copies are allowed below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is kept, read off the final memory. -/
theorem kept_read (c : Dev nD) (s' : Phys nD τ sig (Elt F)) :
    iprop(kept m c ∗ emp ∗ SI s') ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold kept wHeld
  iintro ⟨⟨Hu, Hw⟩, -, HSI⟩
  ihave H := (pointsTo_read_all (Finset.univ : Finset Unit) (fun _ : Unit => ((c : Thread nD τ).loc main_arg1)) (fun _ => wIn m c) s') $$ [Hw HSI]
  · rw [show (Finset.univ : Finset Unit) = {()} from rfl, bigSep_singleton]
    isplitl [Hw] <;> iassumption
  icases H with ⟨%hw, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hw () (Finset.mem_univ _)⟩
  iexact HSI

/-- The contents of a window's array after the run. -/
def finalA (c : Dev nD) (w : Fin cfg0.W) : Buf (Elt F) ((cfg0.win w).arr.view.loc (c : Thread nD τ)) := (dats m ρ 0 c).arrAt w cfg0.N

set_option maxRecDepth 8000 in
/-- From any memory with counters at zero, every run of the eight devices ends, with every window's array at its final
contents, `w` unchanged and every counter at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := entry m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := kept_read m)
    (hQ := fun _ h hs => ⟨fun c => ⟨(h c).1, (h c).2.2.2⟩, sem_eq_zero hs fun c => (h c).2.2.1⟩)

end Cert.KernelIdeal.Exchange

end
-- ==== Proof.KernelIdeal.Ends.lean ====
/-
# What the run leaves

The run of the eight devices read at their arguments and their result: the arguments are as they were, the result is the
block the program computes of them, and every counter is zero.
-/
module

public import proofs.«01_k».proof.Proof.KernelIdeal.Launch
public import Idealize.ShloMosaic.Lib.Pipeline.ValueKit

@[expose] public section

noncomputable section

namespace Cert.KernelIdeal.Exchange

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The staged columns of `x` are all of the device's columns. -/
theorem xIn_eq (c : Dev nD) : xIn m c = m ((c : Thread nD τ).loc main_arg0) := by
  unfold xIn
  funext y
  exact congrArg (m ((c : Thread nD τ).loc main_arg0)) (funext fun a => Fin.ext (by blk_simp; fin_cases a <;> simp <;> rfl))
/-- The first scale, staged, is the first scale. -/
theorem sxIn_eq (c : Dev nD) : sxIn m c = m ((c : Thread nD τ).loc main_arg2) := by
  unfold sxIn
  funext y
  exact congrArg (m ((c : Thread nD τ).loc main_arg2)) (funext fun a => Fin.ext (by blk_simp; fin_cases a <;> simp <;> rfl))
/-- The second scale, staged, is the second scale. -/
theorem swIn_eq (c : Dev nD) : swIn m c = m ((c : Thread nD τ).loc main_arg3) := by
  unfold swIn
  funext y
  exact congrArg (m ((c : Thread nD τ).loc main_arg3)) (funext fun a => Fin.ext (by blk_simp; fin_cases a <;> simp <;> rfl))

/-- The result array ends as the block the program leaves in its staging buffer. -/
theorem finalA_out (c : Dev nD) : finalA m ρ c (3 : Fin 4) = outAt m c :=
  (dats m ρ 0 c).arrAt_eq_of_after_last (3 : Fin 4) t0_0 (show win0_3.WholeAt t0_0 by decide +kernel) _ fun j => rfl

/-- An input's array ends as it was. -/
theorem finalA_in (c : Dev nD) (w : Fin cfg0.W) (hw : (cfg0.win w).isOut = false) :
    finalA m ρ c w = m ((cfg0.win w).arr.view.loc (c : Thread nD τ)) :=
  (dats m ρ 0 c).arrAt_in w hw _

/-- From any memory with counters at zero, every run of the eight devices ends with each device's result the block the
program computes, its arguments unchanged, and every counter at zero. -/
theorem run_ends : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (3 : Fin 4)).trans (finalA_out m ρ c),
      ((h.1 c).1 (0 : Fin 4)).trans (finalA_in m ρ c (0 : Fin 4) rfl), (h.1 c).2,
      ((h.1 c).1 (1 : Fin 4)).trans (finalA_in m ρ c (1 : Fin 4) rfl),
      ((h.1 c).1 (2 : Fin 4)).trans (finalA_in m ρ c (2 : Fin 4) rfl)⟩, h.2⟩)
    (run_main (F := F) m ρ)

end Cert.KernelIdeal.Exchange

end
-- ==== Proof.KernelIdeal.Value.lean ====
/-
# What one device computes

At exact real arithmetic the block a device leaves is, element by element, the sum over the eight devices of the product
of its rows of that device's columns of `x` with the matching rows of `w`, scaled.
-/
module

public import proofs.«01_k».proof.Proof.KernelIdeal.Ends
public import Idealize.ShloMosaic.Lib.Pointwise
public import Idealize.ShloMosaic.Lib.LayoutAt

@[expose] public section

noncomputable section

namespace Cert.KernelIdeal.Exchange

open Cert.KernelIdeal Cert.KernelIdeal.Gen
open Idealize.ShloMosaic
open Idealize.ShloMosaic.TcCoe
open Idealize.SL.Sem

variable (X : Dev nD → FVec Ideal S4096x512 .f32) (Wt : Dev nD → FVec Ideal S4096x2048 .f32) (c : Dev nD)

/-- Row `i` of row block `b` of a matrix of 4096 rows. -/
def row (b : Fin 8) (i : Fin 512) : Fin 4096 := ⟨b.val * 512 + i.val, by have := b.isLt; have := i.isLt; omega⟩

/-- One element of the product of device `c`'s rows of device `e`'s columns of `x` with row block `e` of `w`. -/
def part (e : Dev nD) (i : Fin 512) (k : Fin 2048) : EReal :=
  ∑ l : Fin 512, X e (ix2 (row c i) l) * Wt c (ix2 (row e l) k)

/-- A product of two blocks, element by element. -/
theorem mm_apply (x : FVec Ideal S512x512 .fp8e4m3) (w : FVec Ideal S512x2048 .f32) (i : Fin 512) (k : Fin 2048) :
    mm x w (ix2 i k) = ∑ l : Fin 512, x (ix2 i l) * w (ix2 l k) := by
  pointwise [mm]

/-- Adding a product, element by element. -/
theorem step_apply (x : FVec Ideal S512x512 .fp8e4m3) (w : FVec Ideal S512x2048 .f32) (a : FVec Ideal S512x2048 .f32) (i : Fin 512) (k : Fin 2048) :
    step x w a (ix2 i k) = a (ix2 i k) + mm x w (ix2 i k) := by
  pointwise [step]

/-- Narrowing changes no element. -/
theorem x8_apply (e : Dev nD) (r : Fin 4096) (l : Fin 512) :
    (x8 (F := Ideal) X e : FVec Ideal S4096x512 .fp8e4m3) (ix2 r l) = X e (ix2 r l) := by
  pointwise [x8, k0_pay1]

/-- The rows a device keeps are its own row block. -/
theorem own_apply (i l : Fin 512) : (own (F := Ideal) X c (ix2 i l) : EReal) = X c (ix2 (row c i) l) := by
  refine Eq.trans ?_ (x8_apply X c (row c i) l)
  refine congrArg (x8 (F := Ideal) X c) (funext fun a => Fin.ext ?_)
  show k0_off3 c a + 1 * (ix2 i l a).val = _
  rw [k0_off3_eq]
  match a with
  | ⟨0, _⟩ => show 512 * c.val + 1 * i.val = c.val * 512 + i.val; omega
  | ⟨1, _⟩ => show 0 + 1 * l.val = l.val; omega

/-- The rows a device sends are the row block of the device it sends them to. -/
theorem xblk_apply (e : Dev nD) (j : Fin 7) (i l : Fin 512) :
    (xblk (F := Ideal) X e j (ix2 i l) : EReal) = X e (ix2 (row (fwd e j) i) l) := by
  refine Eq.trans ?_ (x8_apply X e (row (fwd e j) i) l)
  refine congrArg (x8 (F := Ideal) X e) (funext fun a => Fin.ext ?_)
  show k0_off2 e (BitVec.ofNat 32 (1 + j.val)) a + 1 * (ix2 i l a).val = _
  rw [k0_off2_eq]
  match a with
  | ⟨0, _⟩ => show 512 * ((e.val + j.val + 1) % 8) + 1 * i.val = (e.val + j.val + 1) % 8 * 512 + i.val; omega
  | ⟨1, _⟩ => show 0 + 1 * l.val = l.val; omega

/-- The row block of `w` for the device `d` places before `c` is that device's. -/
theorem wblk_apply (d : Fin 8) (e : Dev nD) (he : e.val = (c.val + 8 - d.val) % 8) (l : Fin 512) (k : Fin 2048) :
    (wblk (F := Ideal) Wt c d (ix2 l k) : EReal) = Wt c (ix2 (row e l) k) := by
  refine congrArg (Wt c) (funext fun a => Fin.ext ?_)
  show k0_off1 c (BitVec.ofNat 32 d.val) a + 1 * (ix2 l k a).val = _
  rw [k0_off1_eq]
  match a with
  | ⟨0, _⟩ => show 512 * ((c.val + 8 - d.val) % 8) + 1 * l.val = e.val * 512 + l.val; omega
  | ⟨1, _⟩ => show 0 + 1 * k.val = k.val; omega

/-- The device `j + 1` places before `c` is where slot `j` is filled from. -/
theorem snd_val (j : Fin 7) : (snd c j).val = (c.val + 8 - (nxt8 j).val) % 8 := by revert c j; decide

/-- A device's own product. -/
theorem mm_own (i : Fin 512) (k : Fin 2048) : (mm (F := Ideal) (own X c) (wblk Wt c 0) (ix2 i k) : EReal) = part X Wt c c i k := by
  rw [mm_apply]
  exact Finset.sum_congr rfl fun l _ => by
    rw [own_apply, wblk_apply Wt c 0 c (by show c.val = (c.val + 8 - 0) % 8; have : c.val < 8 := c.isLt; omega)]

/-- The product added for slot `j`. -/
theorem mm_slot (j : Fin 7) (i : Fin 512) (k : Fin 2048) :
    (mm (F := Ideal) (xblk X (snd c j) j) (wblk Wt c (nxt8 j)) (ix2 i k) : EReal) = part X Wt c (snd c j) i k := by
  rw [mm_apply]
  exact Finset.sum_congr rfl fun l _ => by rw [xblk_apply, wblk_apply Wt c (nxt8 j) (snd c j) (snd_val c j), fwd_rev_fwd]

/-- Adding the products of a list of slots adds their sum. -/
theorem accL_apply (l : List (Fin 7)) (a : FVec Ideal S512x2048 .f32) (i : Fin 512) (k : Fin 2048) :
    (accL (F := Ideal) X Wt c l a (ix2 i k) : EReal) = a (ix2 i k) + (l.map fun j => part X Wt c (snd c j) i k).sum := by
  induction l generalizing a with
  | nil => exact (add_zero _).symm
  | cons j l ih =>
    refine (ih (step (xblk X (snd c j) j) (wblk Wt c (nxt8 j)) a)).trans ?_
    rw [step_apply, mm_slot, List.map_cons, List.sum_cons, add_assoc]

/-- A sum over the devices is the device's own term and the terms of the seven before it. -/
theorem sum_devices (g : Dev nD → EReal) : ∑ e : Dev nD, g e = g c + ∑ j : Fin 7, g (snd c j) := by
  have hu : ∀ c : Dev nD, (Finset.univ : Finset (Dev nD)) = insert c (Finset.univ.image fun j : Fin 7 => snd c j) := by decide
  have hn : ∀ c : Dev nD, c ∉ Finset.univ.image fun j : Fin 7 => snd c j := by decide
  have hi : ∀ c : Dev nD, ∀ j j' : Fin 7, snd c j = snd c j' → j = j' := by decide
  rw [hu c, Finset.sum_insert (hn c), Finset.sum_image fun j _ j' _ h => hi c j j' h]

/-- The result block before scaling is the sum over the devices. -/
theorem acc_apply (i : Fin 512) (k : Fin 2048) : (acc (F := Ideal) X Wt c (ix2 i k) : EReal) = ∑ e : Dev nD, part X Wt c e i k := by
  unfold acc
  rw [accL_apply, mm_own, sum_devices c]
  refine congrArg _ ?_
  rw [Fin.sum_univ_def]
  rfl

/-- The result block, element by element. -/
theorem out_apply (SX SW : FVec Ideal S1 .f32) (i : Fin 512) (k : Fin 2048) :
    (out (F := Ideal) X Wt c SX SW (ix2 i k) : EReal) = (∑ e : Dev nD, part X Wt c e i k) * (SX (ix1 0) * SW (ix1 0)) := by
  rw [← acc_apply]
  have hx : sxAt (F := Ideal) SX = SX (ix1 0) := congrArg SX (funext fun a => by fin_cases a; exact Subsingleton.elim (α := Fin 1) _ _)
  have hw : swAt (F := Ideal) SW = SW (ix1 0) := congrArg SW (funext fun a => by fin_cases a; exact Subsingleton.elim (α := Fin 1) _ _)
  unfold out
  rw [hx, hw]
  pointwise [k0_pay13, k0_pay12]

end Cert.KernelIdeal.Exchange

end
-- ==== Proof.Equation.lean ====
/-
# The kernel's result is the reference's

The reference's result element by element, and the equation: the block a device leaves is that device's rows of the
reference's result.
-/
module

public import proofs.«01_k».proof.Proof.KernelIdeal.Value
public import proofs.«01_k».proof.Proof.Gen.ReferenceIdeal.Run

@[expose] public section

noncomputable section

namespace Cert.Equation

open Cert.ReferenceIdeal Cert.ReferenceIdeal.Gen
open Idealize.ShloMosaic
open Cert.KernelIdeal.Exchange (row part out out_apply)

variable (x : FVec Ideal S4096x4096 .f32) (w : FVec Ideal S4096x2048 .f32) (sx sw : FVec Ideal S1 .f32)

/-- The reference's result: the product of `x` and `w`, times the product of the scales. -/
def refOut : FVec Ideal S4096x2048 .f32 :=
  mulf (Host.dotGeneral dot_S4096x4096_S4096x2048_S4096x2048_1_0_0_1_n_n none x w)
    (broadcastInDim S4096x2048 ![0, 1] bcast_S1x1_S4096x2048_0_1 (broadcastInDim S1x1 ![1] bcast_S1_S1x1_1 (mulf sx sw)))

/-- The reference's result, element by element. -/
theorem refOut_apply (r : Fin 4096) (k : Fin 2048) :
    (refOut x w sx sw (ix2 r k) : EReal) = (∑ l : Fin 4096, x (ix2 r l) * w (ix2 l k)) * (sx (ix1 0) * sw (ix1 0)) := by
  pointwise [refOut]

/-- The columns of `x` that device `e` holds. -/
abbrev cols (e : Fin 8) : FVec Ideal ⟨2, ![4096, 512]⟩ .f32 := Layout.block ⟨2, ![4096, 512]⟩ ⟨2, ![4096, 4096]⟩ 1 8 e x

/-- The rows of the reference's result that device `c` is to hold. -/
abbrev blockRows (c : Fin 8) : FVec Ideal ⟨2, ![512, 2048]⟩ .f32 :=
  Layout.block ⟨2, ![512, 2048]⟩ ⟨2, ![4096, 2048]⟩ 0 8 c (refOut x w sx sw)

/-- A device's columns at an index. -/
theorem cols_apply (e : Fin 8) (r : Fin 4096) (l : Fin 512) : cols x e (ix2 r l) = x (ix2 r (row e l)) := by
  refine congrArg x (funext fun a => Fin.ext ?_)
  rw [Layout.Tiles.idx_val]
  match a with
  | ⟨0, _⟩ => rfl
  | ⟨1, _⟩ => rfl

/-- A sum over all 4096 columns is the sum over the devices of the sums over their 512. -/
theorem sum_cols (f : Fin 4096 → EReal) : ∑ l : Fin 4096, f l = ∑ e : Fin 8, ∑ l : Fin 512, f (row e l) :=
  Fin.sum_univ_tiles 8 512 rfl f

/-- The block device `c` computes is its row block of the reference's result. -/
theorem out_eq (c : Fin 8) :
    out (F := Ideal) (cols x) (fun _ => w) c sx sw = blockRows x w sx sw c := by
  have hb (i : Fin 512) (k : Fin 2048) : (blockRows x w sx sw c (ix2 i k) : EReal) = refOut x w sx sw (ix2 (row c i) k) := by
    refine congrArg (refOut x w sx sw) (funext fun a => Fin.ext ?_)
    rw [Layout.Tiles.idx_val]
    match a with
    | ⟨0, _⟩ => rfl
    | ⟨1, _⟩ => rfl
  have h (i : Fin 512) (k : Fin 2048) : (out (F := Ideal) (cols x) (fun _ => w) c sx sw (ix2 i k) : EReal) = blockRows x w sx sw c (ix2 i k) := by
    rw [out_apply, hb, refOut_apply, sum_cols]
    unfold part
    refine congrArg (· * (sx (ix1 0) * sw (ix1 0) : EReal)) ?_
    exact Finset.sum_congr rfl fun e _ => Finset.sum_congr rfl fun l _ => congrArg (· * (w (ix2 (row e l) k) : EReal)) (cols_apply x e (row c i) l)
  funext y
  rw [eq_ix2 y]
  exact h (y 0) (y 1)

end Cert.Equation

end
-- ==== Proof.lean ====
/-
# An all-to-all exchange and product on eight devices against one product

Each device narrows its columns of `x`, sends every other device that device's rows of them, and adds up the products of
the eight row blocks it then holds with the matching rows of `w`. The kernel, as compiled and at exact real arithmetic,
runs on any memory, leaves its arguments unchanged and every counter at zero; so does the reference. At exact real
arithmetic each device's result is its rows of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.Equation
public import Idealize.ShloMosaic.Adequacy
public import Idealize.ShloMosaic.Init

@[expose] public section

noncomputable section

namespace Cert.Proof

open Idealize.ShloMosaic Idealize.SL.Sem

/-- The kernel as compiled runs, its arguments unchanged and every counter back at zero. -/
theorem frame_kernel : Cert.quiescent_Kernel (hKernel := Cert.Kernel.Gen.facts) := fun m g _ =>
  (θ_run _ _ _).mono (fun _ h => ⟨fun c => (h.1 c).2, h.2⟩) (Cert.Kernel.Exchange.run_ends (F := Bits) m g)

/-- The kernel at exact real arithmetic runs, its arguments unchanged and every counter back at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Exchange.run_ends (F := Ideal) m g)

/-- The reference runs, its arguments unchanged and every counter back at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- At exact real arithmetic each device's result is its rows of the reference's result. -/
theorem value : Cert.algebraic_KernelIdeal_ReferenceIdeal (hKernelIdeal := Cert.KernelIdeal.Gen.facts) (hReferenceIdeal := Cert.ReferenceIdeal.Gen.facts) := by
  intro m g m' g' _ hm
  refine ⟨_, ?_, (θ_run _ _ _).mono (fun _ h => h 0) (Cert.ReferenceIdeal.Value.run (F := Ideal) m' g')⟩
  refine (θ_run _ _ _).mono (fun _ h c => ⟨(h.1 c).1.trans ?_, (h.1 c).2⟩) (Cert.KernelIdeal.Exchange.run_ends (F := Ideal) m g)
  refine Eq.trans ?_ (Cert.Equation.out_eq _ _ _ _ c)
  unfold Cert.KernelIdeal.Exchange.outAt
  rw [Cert.KernelIdeal.Exchange.sxIn_eq, Cert.KernelIdeal.Exchange.swIn_eq, (hm c).2.2.1, (hm c).2.2.2,
    show Cert.KernelIdeal.Exchange.xIn m = _ from funext fun e => (Cert.KernelIdeal.Exchange.xIn_eq m e).trans (hm e).1,
    show Cert.KernelIdeal.Exchange.wIn m = _ from funext fun e => (hm e).2.1]

/-- The claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
